-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨4, ![4, 256, 16, 64]⟩ ⟨4, ![4, 512, 16, 64]⟩ (Layout.meshBlock [2, 2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x16x64 : Shape := ⟨4, ![4, 256, 16, 64]⟩
abbrev S2x4x256x16x64 : Shape := ⟨5, ![2, 4, 256, 16, 64]⟩
abbrev S_ : Shape := ⟨0, ![]⟩
abbrev S1x4x256x16x64 : Shape := ⟨5, ![1, 4, 256, 16, 64]⟩
abbrev S1x256x16x64 : Shape := ⟨4, ![1, 256, 16, 64]⟩
abbrev S2x1x256x16x64 : Shape := ⟨5, ![2, 1, 256, 16, 64]⟩
abbrev S256x16x64 : Shape := ⟨3, ![256, 16, 64]⟩
abbrev S1x1x256x16x64 : Shape := ⟨5, ![1, 1, 256, 16, 64]⟩
abbrev S16x256x256 : Shape := ⟨3, ![16, 256, 256]⟩
abbrev S16x256x512 : Shape := ⟨3, ![16, 256, 512]⟩
abbrev S16x256 : Shape := ⟨2, ![16, 256]⟩
abbrev S16x256x1 : Shape := ⟨3, ![16, 256, 1]⟩
abbrev S16x256x64 : Shape := ⟨3, ![16, 256, 64]⟩

abbrev nBuf : Space → Nat
  | .hbm => 6
  | .vmem => 8
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S2x4x256x16x64, .f32⟩
  | .hbm, ⟨4, _⟩ => ⟨S2x4x256x16x64, .f32⟩
  | .hbm, ⟨5, _⟩ => ⟨S4x256x16x64, .f32⟩
  | .local _ .vmem, ⟨0, _⟩ => ⟨S1x256x16x64, .f32⟩
  | .local _ .vmem, ⟨1, _⟩ => ⟨S1x256x16x64, .f32⟩
  | .local _ .vmem, ⟨2, _⟩ => ⟨S2x1x256x16x64, .f32⟩
  | .local _ .vmem, ⟨3, _⟩ => ⟨S2x1x256x16x64, .f32⟩
  | .local _ .vmem, ⟨4, _⟩ => ⟨S2x1x256x16x64, .f32⟩
  | .local _ .vmem, ⟨5, _⟩ => ⟨S2x1x256x16x64, .f32⟩
  | .local _ .vmem, ⟨6, _⟩ => ⟨S1x256x16x64, .f32⟩
  | .local _ .vmem, ⟨7, _⟩ => ⟨S1x256x16x64, .f32⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 5 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let c0_i32_10 : BitVec 32 := 0#32
  let c0_i32_11 : BitVec 32 := 0#32
  let c0_i32_12 : BitVec 32 := 0#32
  ![v5.toNat, 0, 0, 0, 0]
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v21 : BitVec 32 := Scalar.muli v2 c4_i32_17
  let v22 : BitVec 32 := Scalar.addi c0_i32_18 v21
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v23 : BitVec 32 := Scalar.muli v9 c2_i32_19
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v25 : BitVec 32 := Scalar.muli v8 c1_i32_20
  let v26 : BitVec 32 := Scalar.addi v24 v25
  v26.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v29 : BitVec 32 := Scalar.muli v2 c4_i32_25
  let v30 : BitVec 32 := Scalar.addi c0_i32_26 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_27 : BitVec 32 := 2#32
  let v31 : BitVec 32 := Scalar.muli v9 c2_i32_27
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v33 : BitVec 32 := Scalar.muli v8 c1_i32_28
  let v34 : BitVec 32 := Scalar.addi v32 v33
  v34.toNat
abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x256x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x256x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S4x512x16x64, .f32⟩
  | .hbm, ⟨2, _⟩ => ⟨S4x512x16x64, .f32⟩
  | .hbm, ⟨3, _⟩ => ⟨S4x16x512x512, .f32⟩
  | .hbm, ⟨4, _⟩ => ⟨S_, .f32⟩
  | .hbm, ⟨5, _⟩ => ⟨S4x16x512x512, .f32⟩
  | .hbm, ⟨6, _⟩ => ⟨S4x16x512x512, .f32⟩
  | .hbm, ⟨7, _⟩ => ⟨S_, .f32⟩
  | .hbm, ⟨8, _⟩ => ⟨S4x16x512, .f32⟩
  | .hbm, ⟨9, _⟩ => ⟨S4x16x512x1, .f32⟩
  | .hbm, ⟨10, _⟩ => ⟨S4x16x512x512, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x64x512, .f32⟩
  | .hbm, ⟨19, _⟩ => ⟨S4x512x16x64, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/-
  The two devices of a pair and the two slots of a gathered array.

  Device `c` stands at `(c / 4, c / 2 % 2, c % 2)` on the 2 x 2 x 2 mesh; its partner has the other middle coordinate.
  A gathered array (K's or V's) has two slots along its first dimension: slot `j` is for the block of the device of the pair
  whose middle coordinate is `j`. This module names the slots, says what a gathered array holds, and shows that each
  copy of the kernel fills one slot with just that.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Tactic
public import Idealize.ShloMosaic.Lib.Pointwise.Index

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pair -/

/-- The middle mesh coordinate of a device: which slot its own block goes to. -/
def yc (c : Dev nD) : Fin 2 := ⟨c.val / 2 % 2, Nat.mod_lt _ (by decide)⟩

set_option backward.proofsInPublic true in
/-- The device of `c`'s pair whose middle coordinate is `j`. -/
def owner (c : Dev nD) (j : Fin 2) : Dev nD :=
  ⟨4 * (c.val / 4) + 2 * j.val + c.val % 2, by
    have h := c.isLt; have hj := j.isLt; simp only [nD] at h ⊢; omega⟩

/-- The other device of the pair. -/
def pr (c : Dev nD) : Dev nD := owner c (1 - yc c)

theorem owner_yc (c : Dev nD) : owner c (yc c) = c := by revert c; decide
theorem owner_pr (c : Dev nD) (j : Fin 2) : owner (pr c) j = owner c j := by revert c j; decide
theorem pr_pr (c : Dev nD) : pr (pr c) = c := by revert c; decide
theorem yc_pr (c : Dev nD) : yc (pr c) = 1 - yc c := by revert c; decide
theorem yc_owner (c : Dev nD) (j : Fin 2) : yc (owner c j) = j := by revert c j; decide
theorem flip_ne (j : Fin 2) : (1 - j : Fin 2) ≠ j := by revert j; decide
theorem flip_flip (j : Fin 2) : (1 - (1 - j) : Fin 2) = j := by revert j; decide

/-- The three remote operations of the kernel all name the partner. -/
theorem dev1_eq (c : Dev nD) : (⟨k0_dev1 c, k0_dev1_lt c⟩ : Dev nD) = pr c :=
  Fin.ext ((k0_dev1_eq c).trans (by revert c; decide))
theorem dev2_eq (c : Dev nD) : (⟨k0_dev2 c, k0_dev2_lt c⟩ : Dev nD) = pr c :=
  Fin.ext ((k0_dev2_eq c).trans (by revert c; decide))
theorem dev3_eq (c : Dev nD) : (⟨k0_dev3 c, k0_dev3_lt c⟩ : Dev nD) = pr c :=
  Fin.ext ((k0_dev3_eq c).trans (by revert c; decide))

/-- Swapping the devices of each pair. -/
def swap : Dev nD ≃ Dev nD := ⟨pr, pr, pr_pr, pr_pr⟩

/-! ## The arrays and the slots -/

abbrev kM : Memref sig .tc .hbm S4x256x16x64 .f32 := Memref.whole main_arg1
abbrev vM : Memref sig .tc .hbm S4x256x16x64 .f32 := Memref.whole main_arg2

/-- The slot of K's gathered array the kernel on `c` names: the one of `c`'s own block. -/
abbrev kSlot (c : Dev nD) : Memref sig .tc .hbm S4x256x16x64 .f32 :=
  ((Memref.whole main_v1_0 : Memref sig .tc .hbm S2x4x256x16x64 .f32).slice
    (Rect.unit (s := S2x4x256x16x64) (k0_off1 c) S1x4x256x16x64.size (k0_off1_inb c)) (fun _ => rfl)).squeeze S4x256x16x64 squeezes_S1x4x256x16x64_S4x256x16x64
/-- The same slot of V's gathered array. -/
abbrev vSlot (c : Dev nD) : Memref sig .tc .hbm S4x256x16x64 .f32 :=
  ((Memref.whole main_v1_1 : Memref sig .tc .hbm S2x4x256x16x64 .f32).slice
    (Rect.unit (s := S2x4x256x16x64) (k0_off1 c) S1x4x256x16x64.size (k0_off1_inb c)) (fun _ => rfl)).squeeze S4x256x16x64 squeezes_S1x4x256x16x64_S4x256x16x64

/-- The first coordinate of an element of a gathered array: the slot it is in. -/
def slotOf (i : S2x4x256x16x64.Idx) : Fin 2 := i 0

/-- The elements of slot `j`. -/
def slotSet (j : Fin 2) : Finset S2x4x256x16x64.Idx := Finset.univ.filter fun i => slotOf i = j

theorem mem_slotSet (j : Fin 2) (i : S2x4x256x16x64.Idx) : i ∈ slotSet j ↔ slotOf i = j := by
  unfold slotSet; rw [Finset.mem_filter]; exact and_iff_right (Finset.mem_univ i)

theorem slot_disjoint (j : Fin 2) : Disjoint (slotSet j) (slotSet (1 - j)) :=
  Finset.disjoint_left.mpr fun i h₁ h₂ =>
    flip_ne j (((mem_slotSet _ i).mp h₂).symm.trans ((mem_slotSet _ i).mp h₁))

theorem fin2_cases (j a : Fin 2) : a = j ∨ a = 1 - j := by revert j a; decide

theorem slot_union (j : Fin 2) : slotSet j ∪ slotSet (1 - j) = Finset.univ := by
  refine Finset.eq_univ_of_forall fun i => Finset.mem_union.mpr ?_
  rw [mem_slotSet, mem_slotSet]
  exact fin2_cases j (slotOf i)

theorem rect_slot (c : Dev nD) :
    (Rect.unit (s := S2x4x256x16x64) (k0_off1 c) S1x4x256x16x64.size (k0_off1_inb c)).set = slotSet (yc c) := by
  ext i
  rw [mem_slotSet]
  refine Rect.mem_set_unit.trans ?_
  rw [k0_off1_eq]
  constructor
  · intro h
    have h0 : c.val / 2 % 2 ≤ (slotOf i).val ∧ (slotOf i).val < c.val / 2 % 2 + 1 := h 0
    refine Fin.ext (?_ : (slotOf i).val = c.val / 2 % 2)
    omega
  · intro h a
    have h0 : (slotOf i).val = c.val / 2 % 2 := congrArg Fin.val h
    match a with
    | ⟨0, _⟩ => exact ⟨le_of_eq h0.symm, (by omega : (slotOf i).val < c.val / 2 % 2 + 1)⟩
    | ⟨1, _⟩ => exact ⟨Nat.zero_le _, ((i 1).isLt : (i 1).val < 4).trans_eq (Nat.zero_add 4).symm⟩
    | ⟨2, _⟩ => exact ⟨Nat.zero_le _, ((i 2).isLt : (i 2).val < 256).trans_eq (Nat.zero_add 256).symm⟩
    | ⟨3, _⟩ => exact ⟨Nat.zero_le _, ((i 3).isLt : (i 3).val < 16).trans_eq (Nat.zero_add 16).symm⟩
    | ⟨4, _⟩ => exact ⟨Nat.zero_le _, ((i 4).isLt : (i 4).val < 64).trans_eq (Nat.zero_add 64).symm⟩

theorem kSlot_set (c : Dev nD) : (kSlot c).view.set = slotSet (yc c) :=
  (View.set_reshape _ _).trans ((View.set_slice_whole _ _).trans (rect_slot c))
theorem vSlot_set (c : Dev nD) : (vSlot c).view.set = slotSet (yc c) :=
  (View.set_reshape _ _).trans ((View.set_slice_whole _ _).trans (rect_slot c))

/-! ## What a gathered array holds -/

/-- An element of a gathered array, as an index into the block of the slot it is in. -/
def blockIdx (i : S2x4x256x16x64.Idx) : S4x256x16x64.Idx := ix4 (i 1) (i 2) (i 3) (i 4)

/-- The gathered array of `c`'s pair over the blocks `x`: slot `j` holds the block of the device whose middle coordinate is `j`. -/
def gath (x : Dev nD → S4x256x16x64.Idx → Elt F .f32) (c : Dev nD) : S2x4x256x16x64.Idx → Elt F .f32 :=
  fun i => x (owner c (slotOf i)) (blockIdx i)

theorem gath_pr (x : Dev nD → S4x256x16x64.Idx → Elt F .f32) (c : Dev nD) : gath x (pr c) = gath x c := by
  funext i; unfold gath; rw [owner_pr]

/-- Where an element of the block lies in the slot of device `c`. -/
def slotEmb (c : Dev nD) (i : S4x256x16x64.Idx) : S2x4x256x16x64.Idx := ix5 (yc c) (i 0) (i 1) (i 2) (i 3)

theorem slotEmb_eq (c : Dev nD) (h : S4x256x16x64.numel = S1x4x256x16x64.numel) (i : S4x256x16x64.Idx) :
    (Rect.unit (s := S2x4x256x16x64) (k0_off1 c) S1x4x256x16x64.size (k0_off1_inb c)).emb
      (Shape.reshapeEquiv h i) = slotEmb c i := by
  have e : Shape.reshapeEquiv h i = Fin.cons ⟨0, Nat.one_pos⟩ i := Shape.reshapeEquiv_cons_one h i
  rw [e]
  funext a
  refine Fin.ext ?_
  have ho : k0_off1 c a = (![c.val / 2 % 2, 0, 0, 0, 0] : Fin 5 → ℕ) a := congrFun (k0_off1_eq c) a
  refine (Rect.emb_apply _ _ a).trans ?_
  refine (congrArg₂ (· + ·) ho (Nat.one_mul _)).trans ?_
  match a with
  | ⟨0, _⟩ => exact Nat.add_zero _
  | ⟨1, _⟩ => exact Nat.zero_add _
  | ⟨2, _⟩ => exact Nat.zero_add _
  | ⟨3, _⟩ => exact Nat.zero_add _
  | ⟨4, _⟩ => exact Nat.zero_add _

theorem gath_slotEmb (x : Dev nD → S4x256x16x64.Idx → Elt F .f32) (c : Dev nD) (i : S4x256x16x64.Idx) :
    gath x c (slotEmb c i) = x c i := by
  unfold gath
  rw [show slotOf (slotEmb c i) = yc c from rfl, owner_yc]
  exact congrArg (x c) (ix4_eta i)

/-- A copy of `c`'s block of K into the slot the kernel on `c` names — on any device: the slot then holds what the gathered array does. -/
theorem kSlot_write (x : Dev nD → S4x256x16x64.Idx → Elt F .f32) (c : Dev nD) (fd : S2x4x256x16x64.Idx → Elt F .f32) :
    ∀ i ∈ slotSet (yc c), (kSlot c).view.write (Elt F) fd (kM.view.read (Elt F) (x c)) Finset.univ i = gath x c i := by
  intro i hi
  rw [← kSlot_set] at hi
  obtain ⟨b, -, rfl⟩ := Finset.mem_map.mp hi
  refine (View.write_emb_of_mem (v := (kSlot c).view) _ _ (Finset.mem_univ b)).trans ?_
  have e : (kSlot c).view.emb b = slotEmb c b := slotEmb_eq c _ b
  rw [e, gath_slotEmb]
  rfl
theorem vSlot_write (x : Dev nD → S4x256x16x64.Idx → Elt F .f32) (c : Dev nD) (fd : S2x4x256x16x64.Idx → Elt F .f32) :
    ∀ i ∈ slotSet (yc c), (vSlot c).view.write (Elt F) fd (vM.view.read (Elt F) (x c)) Finset.univ i = gath x c i := by
  intro i hi
  rw [← vSlot_set] at hi
  obtain ⟨b, -, rfl⟩ := Finset.mem_map.mp hi
  refine (View.write_emb_of_mem (v := (vSlot c).view) _ _ (Finset.mem_univ b)).trans ?_
  have e : (vSlot c).view.emb b = slotEmb c b := slotEmb_eq c _ b
  rw [e, gath_slotEmb]
  rfl

end Cert.Attn

end
-- ==== Proof.Talk.lean ====
/-
  The gathering kernel's protocol.

  Devices `c` and `p = pr c` form a pair. On each device the protocol uses seven semaphore cells: the barrier cell and the six
  DMA cells the kernel is handed (0, 1: the local copies of K and V; 2, 3: send and receive of K; 4, 5: send and receive of V).

  1. `c` signals `p`'s barrier cell. The unit carries, from `c` to `p`, the slots of `c`'s two gathered arrays which `p` is to fill,
     and the knowledge that `c`'s receive cells are in use.
  2. `c` waits on its own barrier cell for one unit, and so gets the slots of `p` it is to fill.
  3. `c` starts the local copies of its blocks into its own slots (over half a share of each block) and the remote copies
     into `p`'s slots (over the other half).
  4. `c` waits on the six DMA cells. A local copy's cell gives back the filled slot and the half share, a send cell the other half,
     a receive cell the slot `p` has filled.

  A wait on a barrier cell (level 1) is made while two credits on receive cells (level 2) are owed; every later wait is made owing
  nothing. Each cell is used for one round, after which its counter stands at zero and the cell is closed.
-/
module

public import proofs.«01_k».proof.Proof.Slots
public import Idealize.ShloMosaic.Lib.Pipeline.Regions

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline library's and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Cells -/

abbrev barS : Sem sig := (SemArray.scalar (sig.barrier 0 rfl) : Sems sig S_).sem
/-- The six DMA semaphores the gathering kernel is handed. -/
abbrev ds : Fin 6 → DmaSem sig := fun
  | 0 => cc0_scratch0.sem | 1 => cc0_scratch1.sem | 2 => cc0_scratch2.sem | 3 => cc0_scratch3.sem | 4 => cc0_scratch4.sem | 5 => cc0_scratch5.sem
abbrev osem (k : Fin 6) : SemLoc sig := .dma (ds k)

abbrev barCell (c : Dev nD) : GSem nD τ sig := ((c : Thread nD τ), .reg barS)
abbrev dc (c : Dev nD) (k : Fin 6) : GSem nD τ sig := ((c : Thread nD τ), osem k)

theorem ds_val (k : Fin 6) : (ds k).val = k.val := by revert k; decide

/-- What one copy of a block credits its semaphores. -/
abbrev N : ℕ := kM.view.dmaCredit
theorem N_pos : 0 < N := View.dmaCredit_pos _ (by decide)

/-! ## Buffers -/

/-- The blocks of K and V the devices start with. -/
abbrev mK (c : Dev nD) : S4x256x16x64.Idx → Elt F .f32 := m ((c : Thread nD τ).loc main_arg1)
abbrev mV (c : Dev nD) : S4x256x16x64.Idx → Elt F .f32 := m ((c : Thread nD τ).loc main_arg2)

/-- Device `c`'s block of K, at share `q`; of V. -/
def kSrc (c : Dev nD) (q : PosShare TreeShare) : sProp 𝕄 := ((c : Thread nD τ).loc main_arg1) ↦{q} (mK m c)
def vSrc (c : Dev nD) (q : PosShare TreeShare) : sProp 𝕄 := ((c : Thread nD τ).loc main_arg2) ↦{q} (mV m c)
/-- Slot `j` of device `c`'s gathered K, at contents `f`; of its gathered V. -/
def kAt (c : Dev nD) (j : Fin 2) (f : S2x4x256x16x64.Idx → Elt F .f32) : sProp 𝕄 :=
  ((c : Thread nD τ).loc main_v1_0) ↦[slotSet j]{fullShare} f
def vAt (c : Dev nD) (j : Fin 2) (f : S2x4x256x16x64.Idx → Elt F .f32) : sProp 𝕄 :=
  ((c : Thread nD τ).loc main_v1_1) ↦[slotSet j]{fullShare} f
/-- The whole of a gathered array. -/
def kAll (c : Dev nD) (f : S2x4x256x16x64.Idx → Elt F .f32) : sProp 𝕄 := ((c : Thread nD τ).loc main_v1_0) ↦{fullShare} f
def vAll (c : Dev nD) (f : S2x4x256x16x64.Idx → Elt F .f32) : sProp 𝕄 := ((c : Thread nD τ).loc main_v1_1) ↦{fullShare} f

/-- A gathered array is its two slots. -/
theorem kAll_eq (c : Dev nD) (j : Fin 2) (f : S2x4x256x16x64.Idx → Elt F .f32) :
    (kAll c f : sProp 𝕄) = iprop(kAt c j f ∗ kAt c (1 - j) f) := by
  unfold kAll kAt
  rw [← slot_union j]
  exact BI.Entails.antisymm (pointsTo_union (slot_disjoint j)).1 (pointsTo_union (slot_disjoint j)).2
theorem vAll_eq (c : Dev nD) (j : Fin 2) (f : S2x4x256x16x64.Idx → Elt F .f32) :
    (vAll c f : sProp 𝕄) = iprop(vAt c j f ∗ vAt c (1 - j) f) := by
  unfold vAll vAt
  rw [← slot_union j]
  exact BI.Entails.antisymm (pointsTo_union (slot_disjoint j)).1 (pointsTo_union (slot_disjoint j)).2

abbrev lft : PosShare TreeShare := fullShare.left
abbrev rgt : PosShare TreeShare := fullShare.right

/-- A block is its two half shares. -/
theorem kSrc_halves (c : Dev nD) : (kSrc m c fullShare : sProp 𝕄) = iprop(kSrc m c lft ∗ kSrc m c rgt) :=
  BI.Entails.antisymm (pointsTo_share (PosShare.mem_left_op_right fullShare)).1 (pointsTo_share (PosShare.mem_left_op_right fullShare)).2
theorem vSrc_halves (c : Dev nD) : (vSrc m c fullShare : sProp 𝕄) = iprop(vSrc m c lft ∗ vSrc m c rgt) :=
  BI.Entails.antisymm (pointsTo_share (PosShare.mem_left_op_right fullShare)).1 (pointsTo_share (PosShare.mem_left_op_right fullShare)).2

/-! ## The schedule -/

/-- What the unit on `c`'s barrier cell brings: the partner's slots `c` is to fill; the partner's receive cells are in use. -/
def barPay (c : Dev nD) : sProp 𝕄 :=
  iprop((∃ f, kAt (pr c) (yc c) f) ∗ (∃ f, vAt (pr c) (yc c) f) ∗ reached ER (dc (pr c) 3) 0 ∗ reached ER (dc (pr c) 5) 0)

/-- What the credit on `c`'s DMA cell `k` brings. -/
def dmaPay (c : Dev nD) : ℕ → sProp 𝕄
  | 0 => iprop(kAt c (yc c) (gath (mK m) c) ∗ kSrc m c lft)
  | 1 => iprop(vAt c (yc c) (gath (mV m) c) ∗ vSrc m c lft)
  | 2 => kSrc m c rgt
  | 3 => kAt c (1 - yc c) (gath (mK m) c)
  | 4 => vSrc m c rgt
  | 5 => vAt c (1 - yc c) (gath (mV m) c)
  | _ => iprop(emp)

/-- The semaphores the protocol uses. -/
def live : SemLoc sig → Bool
  | .reg _ => true
  | .dma s => decide (s.val < 6)

def Rd : Rounds.Schedule (GSem nD τ sig) Unit 𝕄 where
  duties g r := if r = 0 ∧ g.1.2 = .tc ∧ live g.2 = true then {()} else ∅
  unitless _ := False
  amount g _ _ := match g.2 with | .reg _ => 1 | .dma _ => N
  payload g _ _ := match g.2 with | .reg _ => barPay g.1.1 | .dma s => dmaPay m g.1.1 s.val
  amount_pos g _ _ _ := by
    cases g.2
    · exact Nat.one_pos
    · exact N_pos

instance dmaPay_storable (c : Dev nD) (k : ℕ) : BI.Storable (upEmb : UEmb _ 𝕄) (dmaPay m c k) := by
  unfold dmaPay kAt vAt kSrc vSrc
  split <;> infer_instance

instance Rd_storable (g : GSem nD τ sig) (r : ℕ) (d : Unit) :
    BI.Storable (upEmb : UEmb _ 𝕄) ((Rd (F := F) m).payload g r d) := by
  show BI.Storable upEmb (match g.2 with | .reg _ => barPay g.1.1 | .dma s => dmaPay m g.1.1 s.val)
  unfold barPay kAt vAt
  split <;> infer_instance

theorem live_osem (k : Fin 6) : live (osem k) = true := by revert k; decide

theorem duties_bar (c : Dev nD) : (Rd (F := F) m).duties (barCell c) 0 = {()} := by
  dsimp only [Rd]; exact if_pos ⟨rfl, rfl, rfl⟩
theorem duties_dc (c : Dev nD) (k : Fin 6) : (Rd (F := F) m).duties (dc c k) 0 = {()} := by
  dsimp only [Rd]; exact if_pos ⟨rfl, rfl, live_osem k⟩
theorem duties_later (g : GSem nD τ sig) : ∀ r, 1 ≤ r → (Rd (F := F) m).duties g r = ∅ :=
  fun r hr => if_neg fun h => by omega

theorem mem_bar (c : Dev nD) : () ∈ (Rd (F := F) m).duties (barCell c) 0 := by rw [duties_bar]; exact Finset.mem_singleton_self _
theorem mem_dc (c : Dev nD) (k : Fin 6) : () ∈ (Rd (F := F) m).duties (dc c k) 0 := by rw [duties_dc]; exact Finset.mem_singleton_self _

theorem expect_bar (c : Dev nD) : (Rd (F := F) m).expect (barCell c) 0 = 1 := by
  unfold Schedule.expect Schedule.amountOf; rw [duties_bar, Finset.sum_singleton]; rfl
theorem expect_dc (c : Dev nD) (k : Fin 6) : (Rd (F := F) m).expect (dc c k) 0 = N := by
  unfold Schedule.expect Schedule.amountOf; rw [duties_dc, Finset.sum_singleton]; rfl

theorem pay_bar (c : Dev nD) (u : Unit) : (Rd (F := F) m).payload (barCell c) 0 u = barPay c := rfl
theorem pay_dc (c : Dev nD) (k : Fin 6) (u : Unit) : (Rd (F := F) m).payload (dc c k) 0 u = dmaPay m c k.val :=
  congrArg (dmaPay m c) (ds_val k)

theorem rest_bar (c : Dev nD) :
    bigSep ((Rd (F := F) m).duties (barCell c) 0 \ ∅) (fun u => (Rd (F := F) m).payload (barCell c) 0 u) = barPay c := by
  rw [Finset.sdiff_empty, duties_bar, bigSep_singleton, pay_bar]
theorem rest_dc (c : Dev nD) (k : Fin 6) :
    bigSep ((Rd (F := F) m).duties (dc c k) 0 \ ∅) (fun u => (Rd (F := F) m).payload (dc c k) 0 u) = dmaPay m c k.val := by
  rw [Finset.sdiff_empty, duties_dc, bigSep_singleton, pay_dc]

/-! ## What is owed, and the levels -/

/-- The two receive credits `c`'s remote copies pay on its partner. -/
def Osend (c : Dev nD) : CellTallies nD τ sig Unit := tallyAt (dc (pr c) 5) () N + tallyAt (dc (pr c) 3) () N
/-- All `c` owes at launch: those, and the barrier unit. -/
def O₀ (c : Dev nD) : CellTallies nD τ sig Unit := Osend c + tallyAt (barCell (pr c)) () 1

def L (g : GSem nD τ sig) : Finset Unit := if g.1.2 = .tc then {()} else ∅
/-- Barrier cells at 1, receive cells at 2, the rest at 0. -/
def lv (g : GSem nD τ sig) (_ : Unit) : ℕ :=
  match g.2 with | .reg _ => 1 | .dma s => if s.val = 3 ∨ s.val = 5 then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < tallyAt g () n g' u) : g' = g := by
  rw [tallyAt_apply] at h
  split at h
  · next hg => exact hg.1
  · exact absurd h (Nat.lt_irrefl 0)

theorem Osend_pos {c : Dev nD} {g : GSem nD τ sig} {u : Unit} (h : 0 < Osend c g u) : g = dc (pr c) 5 ∨ g = dc (pr c) 3 := by
  unfold Osend at h
  rw [Pi.add_apply, Finsupp.add_apply] at h
  exact (Nat.add_pos_iff_pos_or_pos.mp h).imp tally_pos tally_pos
theorem O₀_pos {c : Dev nD} {g : GSem nD τ sig} {u : Unit} (h : 0 < O₀ c g u) :
    (g = dc (pr c) 5 ∨ g = dc (pr c) 3) ∨ g = barCell (pr c) := by
  unfold O₀ at h
  rw [Pi.add_apply, Finsupp.add_apply] at h
  exact (Nat.add_pos_iff_pos_or_pos.mp h).imp Osend_pos tally_pos

/-- The wait on the barrier cell is below all that is then owed. -/
theorem mayWait_bar (c : Dev nD) : (levAts L lv : sProp 𝕄) ⊢ MayWait (c : Thread nD τ) (.reg barS) () (Osend c) :=
  MayOwe.of_cut (L := L) (lev := lv) 1 (fun p hp => by rw [Finset.mem_singleton.mp hp, L_tc]; exact Finset.mem_singleton_self _)
    (fun g u hg => by rcases Osend_pos hg with rfl | rfl <;> (rw [L_tc]; exact Finset.mem_singleton_self _))
    (fun p hp => by rw [Finset.mem_singleton.mp hp]; exact le_refl 1)
    (fun g u hg => by rcases Osend_pos hg with rfl | rfl <;> exact (by decide : 1 < 2))

/-! ## Ghost state -/

def barEmb : Dev nD ↪ GSem nD τ sig := ⟨fun c => barCell c, fun _ _ h => congrArg (fun g : GSem nD τ sig => g.1.1) h⟩
theorem osem_inj : Function.Injective osem := by decide
def dcEmb : Dev nD × Fin 6 ↪ GSem nD τ sig :=
  ⟨fun ck => dc ck.1 ck.2, fun _ _ h => Prod.ext (congrArg (fun g : GSem nD τ sig => g.1.1) h) (osem_inj (congrArg Prod.snd h))⟩

/-- All barrier cells; all DMA cells of the protocol. -/
abbrev barCells : Finset (GSem nD τ sig) := Finset.univ.map barEmb
abbrev dmaCells : Finset (GSem nD τ sig) := Finset.univ.map dcEmb

theorem bar_mem (c : Dev nD) : barCell c ∈ (barCells ∪ dmaCells : Finset (GSem nD τ sig)) :=
  Finset.mem_union_left _ (Finset.mem_map_of_mem barEmb (Finset.mem_univ c))
theorem dc_mem (c : Dev nD) (k : Fin 6) : dc c k ∈ (barCells ∪ dmaCells : Finset (GSem nD τ sig)) :=
  Finset.mem_union_right _ (Finset.mem_map_of_mem dcEmb (Finset.mem_univ (c, k)))

/-- One member of a family. -/
theorem take_one {I : Type} [DecidableEq I] {s : Finset I} {Φ : I → sProp 𝕄} {i : I} (h : i ∈ s) : (bigSep s Φ : sProp 𝕄) ⊢ Φ i :=
  bigSep_elim h

/-- Two families over everything are one family of pairs. -/
theorem both_eq {I : Type} [Fintype I] (Φ Ψ : I → sProp 𝕄) :
    (bigSep Finset.univ fun i => iprop(Φ i ∗ Ψ i)) = iprop(bigSep Finset.univ Φ ∗ bigSep Finset.univ Ψ) := bigSep_sep _ _ _
theorem both_join {I : Type} [Fintype I] (Φ Ψ : I → sProp 𝕄) :
    iprop(bigSep Finset.univ Φ ∗ bigSep Finset.univ Ψ) ⊢ bigSep Finset.univ fun i => iprop(Φ i ∗ Ψ i) := Entails.of_eq (both_eq Φ Ψ).symm
theorem both_split {I : Type} [Fintype I] (Φ Ψ : I → sProp 𝕄) :
    (bigSep Finset.univ fun i => iprop(Φ i ∗ Ψ i)) ⊢ iprop(bigSep Finset.univ Φ ∗ bigSep Finset.univ Ψ) := Entails.of_eq (both_eq Φ Ψ)

/-- What every device may consult: the invariants of all the cells, and that every barrier cell is in use. -/
def records (κ : GSem nD τ sig → ℕ) : sProp 𝕄 :=
  iprop((bigSep (barCells ∪ dmaCells) fun g => cellInv ER (Rd m) (κ g) g) ∗ bigSep barCells fun g => reached ER g 0)

instance records_persistent (κ : GSem nD τ sig → ℕ) : BI.Persistent (records m κ) := by unfold records; infer_instance

theorem inv_bar (κ : GSem nD τ sig → ℕ) (c : Dev nD) : records m κ ⊢ (cellInv ER (Rd m) (κ (barCell c)) (barCell c) : sProp 𝕄) := by
  unfold records; iintro ⟨H, -⟩; iapply (take_one (Φ := fun g => cellInv ER (Rd m) (κ g) g) (bar_mem c)) $$ H
theorem inv_dc (κ : GSem nD τ sig → ℕ) (c : Dev nD) (k : Fin 6) :
    records m κ ⊢ (cellInv ER (Rd m) (κ (dc c k)) (dc c k) : sProp 𝕄) := by
  unfold records; iintro ⟨H, -⟩; iapply (take_one (Φ := fun g => cellInv ER (Rd m) (κ g) g) (dc_mem c k)) $$ H
theorem reached_bar (κ : GSem nD τ sig → ℕ) (c : Dev nD) : records m κ ⊢ (reached ER (barCell c) 0 : sProp 𝕄) := by
  unfold records; iintro ⟨-, H⟩; iapply (take_one (Φ := fun g => reached ER g 0) (Finset.mem_map_of_mem barEmb (Finset.mem_univ c))) $$ H

/-- The device whose cell `k` is credited by a copy that `c` starts: the partner for the receive cells, `c` itself otherwise. -/
def tgt (c : Dev nD) (k : Fin 6) : Dev nD := if k = 3 ∨ k = 5 then pr c else c

/-- The rights to pay, by the copies `c` starts and by its signal. -/
def toks (c : Dev nD) : sProp 𝕄 :=
  iprop(dutyTok ER (barCell (pr c)) 0 () ∗ bigSep Finset.univ fun k : Fin 6 => dutyTok ER (dc (tgt c k) k) 0 ())

/-- What `c` carries from launch to the gathering region. -/
def ghost (κ : GSem nD τ sig → ℕ) (c : Dev nD) : sProp 𝕄 :=
  iprop(records m κ ∗ atPos ER (barCell c) 0 ∅ 0 ∗ (bigSep Finset.univ fun k : Fin 6 => openTok ER (dc c k)) ∗ toks c)

/-- The same once its DMA cells are opened. -/
def opened (κ : GSem nD τ sig → ℕ) (c : Dev nD) : sProp 𝕄 :=
  iprop(records m κ ∗ atPos ER (barCell c) 0 ∅ 0
    ∗ (bigSep Finset.univ fun k : Fin 6 => iprop(atPos ER (dc c k) 0 ∅ 0 ∗ reached ER (dc c k) 0)) ∗ toks c)

/-- The credit `c` is to receive from its partner. -/
def creds (c : Dev nD) : sProp 𝕄 :=
  iprop(cred (tallyAt (barCell c) () 1) ∗ cred (tallyAt (dc c 3) () N) ∗ cred (tallyAt (dc c 5) () N))

/-- Opening the six DMA cells at the region's entry. -/
theorem open_cells (κ : GSem nD τ sig → ℕ) (c : Dev nD) :
    iprop(ghost m κ c ∗ bigSep Finset.univ fun k : Fin 6 => semVal (dc c k) 0) ⊢ (|={Set.univ}=> opened m κ c : sProp 𝕄) := by
  unfold ghost opened
  have step (k : Fin 6) : iprop(records m κ ∗ (openTok ER (dc c k) ∗ semVal (dc c k) 0))
      ⊢ (iprop(|={Set.univ}=> (atPos ER (dc c k) 0 ∅ 0 ∗ reached ER (dc c k) 0)) : sProp 𝕄) := by
    iintro ⟨HR, Ho, Hv⟩
    iapply (Rounds.cell_open ER (Rd m) (g := dc c k) (Set.mem_univ (κ (dc c k))))
    isplitl [HR]; · iapply (inv_dc m κ c k) $$ HR
    isplitl [Ho] <;> iassumption
  iintro ⟨⟨#HR, Hb, Ho, Ht⟩, Hv⟩
  ihave Hov := (both_join (fun k : Fin 6 => (openTok ER (dc c k) : sProp 𝕄)) (fun k : Fin 6 => (semVal (dc c k) 0 : sProp 𝕄))) $$ [Ho Hv]
  · isplitl [Ho] <;> iassumption
  ihave Hall := (bigSep_with_persistent (R := records m κ) (S := (Finset.univ : Finset (Fin 6)))
      (Φ := fun k : Fin 6 => (iprop(openTok ER (dc c k) ∗ semVal (dc c k) 0) : sProp 𝕄)) fun k _ => step k) $$ [Hov]
  · isplitr; · iexact HR
    iexact Hov
  imod (bigSep_fupd _ _) $$ Hall with Hall
  imodintro
  isplitr; · iexact HR
  isplitl [Hb]; · iexact Hb
  isplitl [Hall]; · iexact Hall
  iexact Ht

abbrev 𝒱₀ : Variants := Variants.none

/-- A wait on one of `c`'s DMA cells, owing nothing: the payload comes, and the cell is closed with its counter at zero. -/
theorem wait_own (κ : GSem nD τ sig → ℕ) (c : Dev nD) (k : Fin 6) (W : Waits sig Unit)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem k) N K)
    {kk : PUnit → Prog (TpuEff nD τ sig (Elt F) Λ₀ .tc) PUnit} {Q : PUnit → sProp 𝕄} :
    iprop(records m κ ∗ cred (tallyAt (dc c k) () N) ∗ owes (c : Thread nD τ) (0 : CellTallies nD τ sig Unit) W ∗ atPos ER (dc c k) 0 ∅ 0)
      ⊢ iprop((((∃ W', owes (c : Thread nD τ) (0 : CellTallies nD τ sig Unit) W') ∗ semVal (dc c k) 0 ∗ dmaPay m c k.val)
            -∗ wp frame (wpE (defs₀ (F := F)) 𝒱₀ c none) Set.univ (kk ⟨⟩) Q)
          -∗ wp frame (wpE (defs₀ (F := F)) 𝒱₀ c none) Set.univ (.op w kk) Q) := by
  iintro ⟨#HR, Hc, HO, Hat⟩ Hk
  iapply (Rounds.wp_wait_rest_token 𝒱₀ ER (Rd m) (c : Thread nD τ) none (κ := κ (dc c k)) hw (Set.mem_univ _) ()
      (O := 0) (W := W) (R := 0) (m := 0) (T := ∅) ((Nat.zero_add _).trans (expect_dc m c k).symm)) $$ [Hc HO Hat]
  · isplitr; · iapply (inv_dc m κ c k); iexact HR
    isplitl [Hc]; · iexact Hc
    isplitl [HO]; · iexact HO
    isplitr; · rw [MayWait_zero]; iempintro
    iexact Hat
  iintro ⟨HO, Hat, -, Hpay⟩
  ihave Hpay' := (Entails.of_eq (rest_dc m c k)) $$ Hpay
  iapply (fupd_wp frame (wpE (defs₀ (F := F)) 𝒱₀ (c : Thread nD τ) none) Set.univ _ _)
  imod (Rounds.cell_close ER (Rd m) (g := dc c k) (Set.mem_univ (κ (dc c k))) id (duties_later m (dc c k))) $$ [Hat] with Hv
  · isplitr; · iapply (inv_dc m κ c k); iexact HR
    iexact Hat
  imodintro
  iapply Hk
  isplitl [HO]; · iexists _; iexact HO
  isplitl [Hv] <;> iassumption

end Cert.Attn

end
-- ==== Proof.Gather.lean ====
/-
  One run of the gathering kernel on a device `c`: from the protocol's opened ghost state, the two blocks and the two gathered arrays
  at any contents, to the two gathered arrays holding both blocks of the pair, every semaphore at zero, nothing owed.
-/
module

public import proofs.«01_k».proof.Proof.Talk

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the copies leave in a slot -/

/-- The slot the kernel on `c` names, on device `d` of the pair, after a copy of `c`'s block of K: at the gathered contents. -/
theorem kAt_written (c d : Dev nD) (hd : gath (mK m) d = gath (mK m) c) (fd : S2x4x256x16x64.Idx → Elt F .f32) :
    (((kSlot c).view.loc (d : Thread nD τ) ↦[(kSlot c).view.set]{fullShare}
        ((kSlot c).view.write (Elt F) fd (kM.view.read (Elt F) (mK m c)) Finset.univ)) : sProp 𝕄) = kAt d (yc c) (gath (mK m) d) := by
  unfold kAt
  rw [kSlot_set, hd]
  exact pointsTo_congr (kSlot_write (mK m) c fd)
theorem vAt_written (c d : Dev nD) (hd : gath (mV m) d = gath (mV m) c) (fd : S2x4x256x16x64.Idx → Elt F .f32) :
    (((vSlot c).view.loc (d : Thread nD τ) ↦[(vSlot c).view.set]{fullShare}
        ((vSlot c).view.write (Elt F) fd (vM.view.read (Elt F) (mV m c)) Finset.univ)) : sProp 𝕄) = vAt d (yc c) (gath (mV m) d) := by
  unfold vAt
  rw [vSlot_set, hd]
  exact pointsTo_congr (vSlot_write (mV m) c fd)

/-- The slot the kernel on `c` names, on device `d`, as the region of a copy. -/
theorem kAt_region (c d : Dev nD) (f : S2x4x256x16x64.Idx → Elt F .f32) :
    (kAt d (yc c) f : sProp 𝕄) = ((kSlot c).view.loc (d : Thread nD τ) ↦[(kSlot c).view.set]{fullShare} f) := by
  unfold kAt; rw [kSlot_set]
theorem vAt_region (c d : Dev nD) (f : S2x4x256x16x64.Idx → Elt F .f32) :
    (vAt d (yc c) f : sProp 𝕄) = ((vSlot c).view.loc (d : Thread nD τ) ↦[(vSlot c).view.set]{fullShare} f) := by
  unfold vAt; rw [vSlot_set]

/-- A block as the region a copy reads. -/
theorem kSrc_region (c : Dev nD) (q : PosShare TreeShare) :
    (kSrc m c q : sProp 𝕄) = (kM.view.loc (c : Thread nD τ) ↦[kM.view.set]{q} (mK m c)) := by
  unfold kSrc; rw [View.set_whole]
theorem vSrc_region (c : Dev nD) (q : PosShare TreeShare) :
    (vSrc m c q : sProp 𝕄) = (vM.view.loc (c : Thread nD τ) ↦[vM.view.set]{q} (mV m c)) := by
  unfold vSrc; rw [View.set_whole]

/-- The payloads, by name. -/
theorem pay_0 (c : Dev nD) : (dmaPay m c (0 : Fin 6).val : sProp 𝕄) = iprop(kAt c (yc c) (gath (mK m) c) ∗ kSrc m c lft) := rfl
theorem pay_1 (c : Dev nD) : (dmaPay m c (1 : Fin 6).val : sProp 𝕄) = iprop(vAt c (yc c) (gath (mV m) c) ∗ vSrc m c lft) := rfl
theorem pay_2 (c : Dev nD) : (dmaPay m c (2 : Fin 6).val : sProp 𝕄) = kSrc m c rgt := rfl
theorem pay_3 (c : Dev nD) : (dmaPay m c (3 : Fin 6).val : sProp 𝕄) = kAt c (1 - yc c) (gath (mK m) c) := rfl
theorem pay_4 (c : Dev nD) : (dmaPay m c (4 : Fin 6).val : sProp 𝕄) = vSrc m c rgt := rfl
theorem pay_5 (c : Dev nD) : (dmaPay m c (5 : Fin 6).val : sProp 𝕄) = vAt c (1 - yc c) (gath (mV m) c) := rfl
/-- What the partner's receive cell brings it is the slot the kernel on `c` names. -/
theorem recv_k (c : Dev nD) : (dmaPay m (pr c) (3 : Fin 6).val : sProp 𝕄) = kAt (pr c) (yc c) (gath (mK m) (pr c)) := by
  show kAt (pr c) (1 - yc (pr c)) _ = _
  rw [yc_pr, flip_flip]
theorem recv_v (c : Dev nD) : (dmaPay m (pr c) (5 : Fin 6).val : sProp 𝕄) = vAt (pr c) (yc c) (gath (mV m) (pr c)) := by
  show vAt (pr c) (1 - yc (pr c)) _ = _
  rw [yc_pr, flip_flip]

/-- The remote copy of `c`'s block of K to its partner, however the program writes the partner: the send cell's credit comes, and
    one receive credit less is owed. -/
theorem send_k (κ : GSem nD τ sig → ℕ) (c p : Dev nD) (hp : p = pr c) (g : S2x4x256x16x64.Idx → Elt F .f32) (W : Waits sig Unit)
    {hsc : (kSlot c).view.ref.isScScratch = false} {hsrc : kM.view.WordExact} {hdst : (kSlot c).view.WordExact}
    {hsem : DmaTarget.Typed .hbm (osem 3) (.remote (Dev.tc p : Thread nD τ) (kSlot c) (osem 2) hsc)}
    {kk : PUnit → Prog (TpuEff nD τ sig (Elt F) Λ₀ .tc) PUnit} {Q : PUnit → sProp 𝕄} :
    iprop(records m κ ∗ kSrc m c rgt ∗ kAt (pr c) (yc c) g ∗ owes (c : Thread nD τ) (Osend c) W
        ∗ dutyTok ER (dc c 2) 0 () ∗ reached ER (dc c 2) 0 ∗ dutyTok ER (dc (pr c) 3) 0 () ∗ reached ER (dc (pr c) 3) 0)
      ⊢ iprop(((cred (tallyAt (dc c 2) () N) ∗ owes (c : Thread nD τ) (tallyAt (dc (pr c) 5) () N) W)
            -∗ wp frame (wpE (defs₀ (F := F)) 𝒱₀ c none) Set.univ (kk ⟨⟩) Q)
          -∗ wp frame (wpE (defs₀ (F := F)) 𝒱₀ c none) Set.univ
            (.op (.enqueueDma kM (.remote (Dev.tc p : Thread nD τ) (kSlot c) (osem 2) hsc) (osem 3) hsrc hdst hsem) kk) Q) := by
  subst hp
  rw [kSrc_region, kAt_region]
  iintro ⟨#HR, Hsrc, Hdst, HO, Hts, #Hrs, Htr, #Hrr⟩
  iapply (Rounds.wp_send_pointsTo 𝒱₀ ER (Rd m) (c : Thread nD τ) none (c' := (pr c : Thread nD τ)) (src := kM) (dst := kSlot c)
      (sS := osem 2) (sem := osem 3) (q := rgt) (fs := mK m c) (κ₁ := κ (dc c 2)) (κ₂ := κ (dc (pr c) 3))
      (r₁ := 0) (r₂ := 0) (d₁ := ()) (d₂ := ()) (fd := g) (mem_dc m c 2) (mem_dc m (pr c) 3) () () N rfl rfl rfl
      (tallyAt (dc (pr c) 5) () N) (by rfl) (W := W)
      (by rw [pay_dc, ← kSrc_region]; exact BI.Entails.refl _)
      (by rw [pay_dc, kAt_written m c (pr c) (gath_pr _ c), recv_k]))
  isplitr; · iapply (inv_dc m κ c 2); iexact HR
  isplitr; · iapply (inv_dc m κ (pr c) 3); iexact HR
  isplitl [Hsrc]; · iexact Hsrc
  isplitl [Hdst]; · iexact Hdst
  isplitl [HO]; · iexact HO
  isplitl [Hts]; · iexact Hts
  isplitr; · iexact Hrs
  isplitl [Htr]; · iexact Htr
  iexact Hrr

/-- The remote copy of `c`'s block of V to its partner: afterwards nothing is owed. -/
theorem send_v (κ : GSem nD τ sig → ℕ) (c p : Dev nD) (hp : p = pr c) (g : S2x4x256x16x64.Idx → Elt F .f32) (W : Waits sig Unit)
    {hsc : (vSlot c).view.ref.isScScratch = false} {hsrc : vM.view.WordExact} {hdst : (vSlot c).view.WordExact}
    {hsem : DmaTarget.Typed .hbm (osem 5) (.remote (Dev.tc p : Thread nD τ) (vSlot c) (osem 4) hsc)}
    {kk : PUnit → Prog (TpuEff nD τ sig (Elt F) Λ₀ .tc) PUnit} {Q : PUnit → sProp 𝕄} :
    iprop(records m κ ∗ vSrc m c rgt ∗ vAt (pr c) (yc c) g ∗ owes (c : Thread nD τ) (tallyAt (dc (pr c) 5) () N) W
        ∗ dutyTok ER (dc c 4) 0 () ∗ reached ER (dc c 4) 0 ∗ dutyTok ER (dc (pr c) 5) 0 () ∗ reached ER (dc (pr c) 5) 0)
      ⊢ iprop(((cred (tallyAt (dc c 4) () N) ∗ owes (c : Thread nD τ) (0) W)
            -∗ wp frame (wpE (defs₀ (F := F)) 𝒱₀ c none) Set.univ (kk ⟨⟩) Q)
          -∗ wp frame (wpE (defs₀ (F := F)) 𝒱₀ c none) Set.univ
            (.op (.enqueueDma vM (.remote (Dev.tc p : Thread nD τ) (vSlot c) (osem 4) hsc) (osem 5) hsrc hdst hsem) kk) Q) := by
  subst hp
  rw [vSrc_region, vAt_region]
  iintro ⟨#HR, Hsrc, Hdst, HO, Hts, #Hrs, Htr, #Hrr⟩
  iapply (Rounds.wp_send_pointsTo 𝒱₀ ER (Rd m) (c : Thread nD τ) none (c' := (pr c : Thread nD τ)) (src := vM) (dst := vSlot c)
      (sS := osem 4) (sem := osem 5) (q := rgt) (fs := mV m c) (κ₁ := κ (dc c 4)) (κ₂ := κ (dc (pr c) 5))
      (r₁ := 0) (r₂ := 0) (d₁ := ()) (d₂ := ()) (fd := g) (mem_dc m c 4) (mem_dc m (pr c) 5) () () N rfl rfl rfl
      (0) (by rw [zero_add]) (W := W)
      (by rw [pay_dc, ← vSrc_region]; exact BI.Entails.refl _)
      (by rw [pay_dc, vAt_written m c (pr c) (gath_pr _ c), recv_v]))
  isplitr; · iapply (inv_dc m κ c 4); iexact HR
  isplitr; · iapply (inv_dc m κ (pr c) 5); iexact HR
  isplitl [Hsrc]; · iexact Hsrc
  isplitl [Hdst]; · iexact Hdst
  isplitl [HO]; · iexact HO
  isplitl [Hts]; · iexact Hts
  isplitr; · iexact Hrs
  isplitl [Htr]; · iexact Htr
  iexact Hrr

/-! ## The run -/

/-- What the run starts from: the opened ghost state, the credit to come, the blocks, the gathered arrays at any contents, the debt. -/
def gatherPre (κ : GSem nD τ sig → ℕ) (c : Dev nD) (W : Waits sig Unit) : sProp 𝕄 :=
  iprop(opened m κ c ∗ creds c ∗ levAts L lv ∗ kSrc m c fullShare ∗ vSrc m c fullShare ∗ (∃ f, kAll c f) ∗ (∃ f, vAll c f)
    ∗ owes (c : Thread nD τ) (O₀ c) W)

/-- What it ends with: all seven counters at zero, the blocks, both gathered arrays filled, no debt. -/
def gatherPost (c : Dev nD) : sProp 𝕄 :=
  iprop(semVal (barCell c) 0
    ∗ (semVal (dc c 0) 0 ∗ semVal (dc c 1) 0 ∗ semVal (dc c 2) 0 ∗ semVal (dc c 3) 0 ∗ semVal (dc c 4) 0 ∗ semVal (dc c 5) 0)
    ∗ kSrc m c fullShare ∗ vSrc m c fullShare ∗ kAll c (gath (mK m) c) ∗ vAll c (gath (mV m) c)
    ∗ ∃ W, owes (c : Thread nD τ) (0 : CellTallies nD τ sig Unit) W)

/-- A family over the six DMA cells, one by one. -/
theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  rfl

theorem toks_eq (c : Dev nD) : (toks c : sProp 𝕄) = iprop(dutyTok ER (barCell (pr c)) 0 () ∗ dutyTok ER (dc c 0) 0 () ∗ dutyTok ER (dc c 1) 0 ()
    ∗ dutyTok ER (dc c 2) 0 () ∗ dutyTok ER (dc (pr c) 3) 0 () ∗ dutyTok ER (dc c 4) 0 () ∗ dutyTok ER (dc (pr c) 5) 0 ()) := by
  unfold toks; rw [six]; rfl

/-- The kernel at the arguments of its call. -/
abbrev bodyOf : Prog (TpuEff nD τ sig (Elt F) Λ₀ .tc) PUnit :=
  cc0__ag_kv_body kM (Memref.isWhole_whole _) vM (Memref.isWhole_whole _) (Memref.whole main_v1_0) (Memref.isWhole_whole _)
    (Memref.whole main_v1_1) (Memref.isWhole_whole _) cc0_scratch0 cc0_scratch1 cc0_scratch2 cc0_scratch3 cc0_scratch4 cc0_scratch5

set_option maxHeartbeats 1600000 in
/-- The run of the gathering kernel on device `c`. -/
theorem gather_run (κ : GSem nD τ sig → ℕ) (c : Dev nD) (W : Waits sig Unit) (Kt : PUnit → sProp 𝕄) :
    iprop(gatherPre m κ c W ∗ (gatherPost m c -∗ Kt ⟨⟩))
      ⊢ wp frame (wpE (defs₀ (F := F)) 𝒱₀ c none) Set.univ (bodyOf (F := F)) Kt := by
  unfold bodyOf
  simp only [cc0__ag_kv_body_eq_skeleton]
  unfold cc0__ag_kv_body_skel
  simp only [k0_part1_eq_skeleton, k0_part2_eq_skeleton]
  unfold k0_part1_skel k0_part2_skel
  simp only [semSignalWord, semWaitWord, Prog.lift, Prog.bind_op, Prog.bind_ret, Prog.pure_eq_ret, Prog.bind_assoc, wp_deviceId]
  simp only [dev1_eq]
  unfold gatherPre opened creds
  rw [six, toks_eq, kSrc_halves, vSrc_halves]
  iintro ⟨⟨⟨#HR, HatB, ⟨⟨Ha0, #Hr0⟩, ⟨Ha1, #Hr1⟩, ⟨Ha2, #Hr2⟩, ⟨Ha3, #Hr3⟩, ⟨Ha4, #Hr4⟩, ⟨Ha5, #Hr5⟩⟩, HtB, Ht0, Ht1, Ht2, Ht3, Ht4, Ht5⟩,
    ⟨HcB, Hc3, Hc5⟩, #Hlev, ⟨HkL, HkR⟩, ⟨HvL, HvR⟩, ⟨%fk, Hk0⟩, ⟨%fv, Hv0⟩, HO⟩, Hend⟩
  ihave Hk1 := (Entails.of_eq (kAll_eq c (yc c) fk)) $$ Hk0
  icases Hk1 with ⟨HkOwn, HkOth⟩
  ihave Hv1 := (Entails.of_eq (vAll_eq c (yc c) fv)) $$ Hv0
  icases Hv1 with ⟨HvOwn, HvOth⟩
  -- the SIGNAL to the partner: the slots it is to fill, and that the receive cells are in use
  iapply (Rounds.wp_signal 𝒱₀ ER (Rd m) (c : Thread nD τ) none (dst := (pr c : Thread nD τ)) (sem := barS) (r := 0) (d := ())
      (κ := κ (barCell (pr c))) (mem_bar m (pr c)) rfl () (Osend c) rfl) $$ [HO HtB HkOth HvOth]
  · isplitr; · iapply (inv_bar m κ (pr c)); iexact HR
    isplitl [HO]; · iexact HO
    isplitl [HtB]; · iexact HtB
    isplitl [HkOth HvOth]
    · rw [pay_bar]; unfold barPay; rw [pr_pr, yc_pr]
      isplitl [HkOth]; · iexists fk; iexact HkOth
      isplitl [HvOth]; · iexists fv; iexact HvOth
      isplitr; · iexact Hr3
      iexact Hr5
    · iapply (reached_bar m κ (pr c)); iexact HR
  iintro HO
  -- the WAIT on the own barrier cell: the partner's slots come
  iapply (Rounds.wp_wait_rest_token 𝒱₀ ER (Rd m) (c : Thread nD τ) none (κ := κ (barCell c))
      (wpE_semWait_eq 𝒱₀ (c : Thread nD τ) none Set.univ) (Set.mem_univ _) () (O := Osend c) (W := W) (R := 0) (m := 0) (T := ∅)
      ((Nat.zero_add 1).trans (expect_bar m c).symm)) $$ [HcB HO HatB]
  · isplitr; · iapply (inv_bar m κ c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%gk, HkN⟩, ⟨%gv, HvN⟩, #HrN3, #HrN5⟩
  iapply (fupd_wp frame (wpE (defs₀ (F := F)) 𝒱₀ (c : Thread nD τ) none) Set.univ _ _)
  imod (Rounds.cell_close ER (Rd m) (g := barCell c) (Set.mem_univ (κ (barCell c))) id (duties_later m (barCell c))) $$ [HatB] with HbarV
  · isplitr; · iapply (inv_bar m κ c); iexact HR
    iexact HatB
  imodintro
  -- the LOCAL COPY of the block of K
  iapply (Rounds.wp_copy_pointsTo 𝒱₀ ER (Rd m) (c : Thread nD τ) none (src := kM) (dst := kSlot c) (sem := osem 0) (q := lft)
      (fs := mK m c) (fd := fk) (r := 0) (d := ()) (κ := κ (dc c 0)) (mem_dc m c 0) () N rfl rfl
      (by rw [pay_dc, kAt_written m c c rfl, ← kSrc_region]; exact BI.Entails.refl _)) $$ [HkL HkOwn Ht0]
  · isplitr; · iapply (inv_dc m κ c 0); iexact HR
    isplitl [HkL]; · rw [← kSrc_region]; iexact HkL
    isplitl [HkOwn]; · rw [← kAt_region]; iexact HkOwn
    isplitl [Ht0]; · iexact Ht0
    iexact Hr0
  iintro Hc0
  -- the LOCAL COPY of the block of V
  iapply (Rounds.wp_copy_pointsTo 𝒱₀ ER (Rd m) (c : Thread nD τ) none (src := vM) (dst := vSlot c) (sem := osem 1) (q := lft)
      (fs := mV m c) (fd := fv) (r := 0) (d := ()) (κ := κ (dc c 1)) (mem_dc m c 1) () N rfl rfl
      (by rw [pay_dc, vAt_written m c c rfl, ← vSrc_region]; exact BI.Entails.refl _)) $$ [HvL HvOwn Ht1]
  · isplitr; · iapply (inv_dc m κ c 1); iexact HR
    isplitl [HvL]; · rw [← vSrc_region]; iexact HvL
    isplitl [HvOwn]; · rw [← vAt_region]; iexact HvOwn
    isplitl [Ht1]; · iexact Ht1
    iexact Hr1
  iintro Hc1
  -- the REMOTE COPY of the block of K
  iapply (send_k m κ c _ (dev2_eq c) gk _) $$ [HkR HkN HO Ht2 Ht3]
  · isplitr; · iexact HR
    isplitl [HkR]; · iexact HkR
    isplitl [HkN]; · iexact HkN
    isplitl [HO]; · iexact HO
    isplitl [Ht2]; · iexact Ht2
    isplitr; · iexact Hr2
    isplitl [Ht3]; · iexact Ht3
    iexact HrN3
  iintro ⟨Hc2, HO⟩
  -- the REMOTE COPY of the block of V
  iapply (send_v m κ c _ (dev3_eq c) gv _) $$ [HvR HvN HO Ht4 Ht5]
  · isplitr; · iexact HR
    isplitl [HvR]; · iexact HvR
    isplitl [HvN]; · iexact HvN
    isplitl [HO]; · iexact HO
    isplitl [Ht4]; · iexact Ht4
    isplitr; · iexact Hr4
    isplitl [Ht5]; · iexact Ht5
    iexact HrN5
  iintro ⟨Hc4, HO⟩
  -- the six WAITS
  iapply (wait_own m κ c 0 _ (wpE_waitDma2_eq (src := kM) (dst := kSlot c) 𝒱₀ (c : Thread nD τ) none Set.univ)) $$ [Hc0 HO Ha0]
  · isplitr; · iexact HR
    isplitl [Hc0]; · iexact Hc0
    isplitl [HO] <;> iassumption
  iintro ⟨⟨%W0, HO⟩, Hs0, Hp0⟩
  iapply (wait_own m κ c 1 _ (wpE_waitDma2_eq (src := vM) (dst := vSlot c) 𝒱₀ (c : Thread nD τ) none Set.univ)) $$ [Hc1 HO Ha1]
  · isplitr; · iexact HR
    isplitl [Hc1]; · iexact Hc1
    isplitl [HO] <;> iassumption
  iintro ⟨⟨%W1, HO⟩, Hs1, Hp1⟩
  iapply (wait_own m κ c 2 _ (wpE_waitDma2_eq (src := kSlot c) (dst := kM) 𝒱₀ (c : Thread nD τ) none Set.univ)) $$ [Hc2 HO Ha2]
  · isplitr; · iexact HR
    isplitl [Hc2]; · iexact Hc2
    isplitl [HO] <;> iassumption
  iintro ⟨⟨%W2, HO⟩, Hs2, Hp2⟩
  iapply (wait_own m κ c 3 _ (wpE_waitDma2_eq (src := kM) (dst := kSlot c) 𝒱₀ (c : Thread nD τ) none Set.univ)) $$ [Hc3 HO Ha3]
  · isplitr; · iexact HR
    isplitl [Hc3]; · iexact Hc3
    isplitl [HO] <;> iassumption
  iintro ⟨⟨%W3, HO⟩, Hs3, Hp3⟩
  iapply (wait_own m κ c 4 _ (wpE_waitDma2_eq (src := vSlot c) (dst := vM) 𝒱₀ (c : Thread nD τ) none Set.univ)) $$ [Hc4 HO Ha4]
  · isplitr; · iexact HR
    isplitl [Hc4]; · iexact Hc4
    isplitl [HO] <;> iassumption
  iintro ⟨⟨%W4, HO⟩, Hs4, Hp4⟩
  iapply (wait_own m κ c 5 _ (wpE_waitDma2_eq (src := vM) (dst := vSlot c) 𝒱₀ (c : Thread nD τ) none Set.univ)) $$ [Hc5 HO Ha5]
  · isplitr; · iexact HR
    isplitl [Hc5]; · iexact Hc5
    isplitl [HO] <;> iassumption
  iintro ⟨⟨%W5, HO⟩, Hs5, Hp5⟩
  rw [wp_ret]
  imodintro
  iapply Hend
  ihave Hq0 := (Entails.of_eq (pay_0 m c)) $$ Hp0; icases Hq0 with ⟨HkOwn, HkL⟩
  ihave Hq1 := (Entails.of_eq (pay_1 m c)) $$ Hp1; icases Hq1 with ⟨HvOwn, HvL⟩
  unfold gatherPost
  isplitl [HbarV]; · iexact HbarV
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4] <;> iassumption
  isplitl [HkL Hp2]
  · rw [kSrc_halves]
    isplitl [HkL]; · iexact HkL
    rw [← pay_2]; iexact Hp2
  isplitl [HvL Hp4]
  · rw [vSrc_halves]
    isplitl [HvL]; · iexact HvL
    rw [← pay_4]; iexact Hp4
  isplitl [HkOwn Hp3]
  · rw [kAll_eq c (yc c)]
    isplitl [HkOwn]; · iexact HkOwn
    rw [← pay_3]; iexact Hp3
  isplitl [HvOwn Hp5]
  · rw [vAll_eq c (yc c)]
    isplitl [HvOwn]; · iexact HvOwn
    rw [← pay_5]; iexact Hp5
  iexists _; iexact HO

end Cert.Attn

end
-- ==== Proof.Attn.lean ====
/-
  One run of the attention kernel at a grid point: from its three input blocks, to the same blocks and the result's block
  at the kernel's own expression of them.
-/
module

public import proofs.«01_k».proof.Proof.Gather
public import Idealize.ShloMosaic.Lib.Tactic
public import Idealize.ShloMosaic.Lib.Pipeline.Value
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The two halves of a block of a gathered array, as the kernel loads them. -/
def half0 (x : S2x1x256x16x64.Idx → Elt F .f32) : Vec F S1x1x256x16x64 .f32 :=
  View.ld x (Rect.unit (s := S2x1x256x16x64) ![0, 0, 0, 0, 0] S1x1x256x16x64.size inb_S2x1x256x16x64_S1x1x256x16x64_0_0_0_0_0)
def half1 (x : S2x1x256x16x64.Idx → Elt F .f32) : Vec F S1x1x256x16x64 .f32 :=
  View.ld x (Rect.unit (s := S2x1x256x16x64) ![1, 0, 0, 0, 0] S1x1x256x16x64.size inb_S2x1x256x16x64_S1x1x256x16x64_1_0_0_0_0)

/-- The block the attention kernel computes from a block of Q and blocks of the gathered K and V. -/
def attnBlk (q : S1x256x16x64.Idx → Elt F .f32) (k v : S2x1x256x16x64.Idx → Elt F .f32) : S1x256x16x64.Idx → Elt F .f32 :=
  k1_pay1 (k1_pay3 q (half0 k) (half1 k) (half0 v)) (k1_pay4 q (half0 k) (half1 k) (half1 v))

theorem zero4 : (![0, 0, 0, 0] : Fin 4 → ℕ) = fun _ => 0 := by funext a; fin_cases a <;> rfl

/-- A load of a whole block reads the block; after a store to a whole block the view reads what was stored. -/
theorem ld_whole (x : S1x256x16x64.Idx → Elt F .f32) :
    View.ld x (Rect.unit (s := S1x256x16x64) ![0, 0, 0, 0] S1x256x16x64.size inb_S1x256x16x64_S1x256x16x64_0_0_0_0) = x :=
  View.ld_unit_zero zero4 _ x
/-- The kernel's expression over its loads, the query block being loaded whole, is `attnBlk`. -/
theorem attnBlk_ld (q : S1x256x16x64.Idx → Elt F .f32) (k v : S2x1x256x16x64.Idx → Elt F .f32) :
    k1_pay1
      (k1_pay3 (View.ld q (Rect.unit (s := S1x256x16x64) ![0, 0, 0, 0] S1x256x16x64.size inb_S1x256x16x64_S1x256x16x64_0_0_0_0)) (half0 k) (half1 k) (half0 v))
      (k1_pay4 (View.ld q (Rect.unit (s := S1x256x16x64) ![0, 0, 0, 0] S1x256x16x64.size inb_S1x256x16x64_S1x256x16x64_0_0_0_0)) (half0 k) (half1 k) (half1 v))
    = attnBlk q k v := by
  rw [ld_whole]; rfl
theorem read_stored {sp : Space} (v : View sig .tc sp S1x256x16x64 .f32) (f : v.ty.Contents (Elt F)) (w : S1x256x16x64.Idx → Elt F .f32) :
    v.read (Elt F) (v.writes (Elt F) f
      [(⟨Rect.unit (s := S1x256x16x64) ![0, 0, 0, 0] S1x256x16x64.size inb_S1x256x16x64_S1x256x16x64_0_0_0_0, w⟩ : View.Piece (Elt F) S1x256x16x64 .f32)]) = w := by
  funext y
  exact View.read_writes_cons_unit_of_mem v f inb_S1x256x16x64_S1x256x16x64_0_0_0_0 w [] y y zero4 (fun a => (Nat.zero_add _).symm)

/-- The run, over the four staging buffers at any contents, and what the result's buffer then reads. -/
theorem attn_run (c : Dev nD) (i : grid1.Coords) (M0 : Memref sig .tc .vmem S1x256x16x64 .f32) (h0 : M0.IsWhole)
    (M1 : Memref sig .tc .vmem S2x1x256x16x64 .f32) (h1 : M1.IsWhole) (M2 : Memref sig .tc .vmem S2x1x256x16x64 .f32) (h2 : M2.IsWhole)
    (M3 : Memref sig .tc .vmem S1x256x16x64 .f32) (h3 : M3.IsWhole) (q : S1x256x16x64.Idx → Elt F .f32) (k v : S2x1x256x16x64.Idx → Elt F .f32)
    (Q : PUnit → sProp 𝕄) :
    iprop(owns (c : Thread nD τ) M0 fullShare q ∗ owns (c : Thread nD τ) M1 fullShare k ∗ owns (c : Thread nD τ) M2 fullShare v
        ∗ (∃ d, owns (c : Thread nD τ) M3 fullShare d)
        ∗ ((owns (c : Thread nD τ) M0 fullShare q ∗ owns (c : Thread nD τ) M1 fullShare k ∗ owns (c : Thread nD τ) M2 fullShare v
            ∗ owns (c : Thread nD τ) M3 fullShare (attnBlk q k v)) -∗ Q ⟨⟩))
      ⊢ wp frame (wpE (defs₀ (F := F)) 𝒱₀ c none) Set.univ (cc1__attn_body i M0 h0 M1 h1 M2 h2 M3 h3) Q := by
  unfold owns
  rw [h0.set_eq_univ, h1.set_eq_univ, h2.set_eq_univ, h3.set_eq_univ]
  simp only [cc1__attn_body_eq_skeleton]
  unfold cc1__attn_body_skel
  simp only [k1_part1_eq_skeleton]
  unfold k1_part1_skel
  iintro ⟨⟨%f0, %e0, H0⟩, ⟨%f1, %e1, H1⟩, ⟨%f2, %e2, H2⟩, ⟨%d, %f3, -, H3⟩, Hk⟩
  sl_exec!
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  iexists _
  isplitr; swap; · iexact H3
  ipureintro
  sl_unfold_words
  refine (read_stored M3.view _ _).trans ?_
  subst e0 e1 e2
  exact attnBlk_ld _ _ _

end Cert.Attn

end
-- ==== Proof.Regions.lean ====
/-
  The two kernel regions over one thread state: between regions a device holds its six arrays whole at a valuation.
  The gathering region changes the two gathered arrays; the attention region changes the result.
-/
module

public import proofs.«01_k».proof.Proof.Attn
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.RegionArraysS
public import Idealize.ShloMosaic.Lib.Pipeline.Frame

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The arrays between regions -/

/-- The arrays of a device. -/
abbrev arrs : Finset (DevRef τ sig) := Pipeline.ucRefs τ sig

/-- Device `c`'s arrays at launch, and once K and V are gathered. -/
abbrev Vs (c : Dev nD) : Valuation τ sig (Elt F) := fun b => m (c, b)
abbrev Vg (c : Dev nD) : Valuation τ sig (Elt F) :=
  Function.update (Function.update (Vs m c) (Proc.devRef .tc main_v1_0) (gath (mK m) c)) (Proc.devRef .tc main_v1_1) (gath (mV m) c)

theorem Vg_v (c : Dev nD) : Vg m c (Proc.devRef .tc main_v1_1) = gath (mV m) c := Function.update_self ..
theorem Vg_k (c : Dev nD) : Vg m c (Proc.devRef .tc main_v1_0) = gath (mK m) c :=
  (Function.update_of_ne (by decide) ..).trans (Function.update_self ..)
theorem Vg_of (c : Dev nD) (b : DevRef τ sig) (hk : b ≠ Proc.devRef .tc main_v1_0) (hv : b ≠ Proc.devRef .tc main_v1_1) :
    Vg m c b = Vs m c b := (Function.update_of_ne hv ..).trans (Function.update_of_ne hk ..)

/-- One array of a device, whole. -/
abbrev pt (c : Dev nD) (b : Ref sig .tc) (f : Buf (Elt F) ((c : Thread nD τ).loc b)) : sProp 𝕄 := ((c : Thread nD τ).loc b) ↦{fullShare} f

/-- The arrays one by one. -/
theorem held_arrs (c : Dev nD) (W : Valuation τ sig (Elt F)) : (StableHlo.held (c : Thread nD τ) arrs W : sProp 𝕄)
    = iprop(pt c main_arg0 (W (Proc.devRef .tc main_arg0)) ∗ pt c main_arg1 (W (Proc.devRef .tc main_arg1)) ∗ pt c main_arg2 (W (Proc.devRef .tc main_arg2))
      ∗ pt c main_v1_0 (W (Proc.devRef .tc main_v1_0)) ∗ pt c main_v1_1 (W (Proc.devRef .tc main_v1_1)) ∗ pt c main_v2 (W (Proc.devRef .tc main_v2))) := by
  unfold StableHlo.held
  rw [bigSep_eq_bigSepL_of_eq [Proc.devRef .tc main_arg0, Proc.devRef .tc main_arg1, Proc.devRef .tc main_arg2,
    Proc.devRef .tc main_v1_0, Proc.devRef .tc main_v1_1, Proc.devRef .tc main_v2] (by decide) (by decide)]
  rfl

/-! ## Proof data -/

/-- The staging buffers of the other region, and the generator register: neither is touched by the gathering kernel. -/
def idle0 (c : Dev nD) : sProp 𝕄 := iprop(Pipeline.scopedRest (Ix := Unit) (Name := ℕ) (U := UU) (Lvl := ℕ) (Val := Elt F) cfg0.spec c ∗ ∃ r, prngReg c r)

/-- What the gathering region is entered with beside them, and left with. -/
def in0 (c : Dev nD) : sProp 𝕄 := iprop(StableHlo.held (c : Thread nD τ) arrs (Vs m c) ∗ (∃ κ, opened m κ c) ∗ creds c ∗ levAts L lv)
def out0 (c : Dev nD) : sProp 𝕄 :=
  iprop(StableHlo.held (c : Thread nD τ) arrs (Vg m c) ∗ (bigSep Finset.univ fun k : Fin 6 => semVal (dc c k) 0) ∗ semVal (barCell c) 0)

/-- Proof data of the gathering region: one point, no windows. -/
def dat0 (c : Dev nD) : Dat τ (Elt F) Unit ℕ UU ℕ cfg0 c where
  A w := w.elim0
  after w := w.elim0
  Φ t := if t.val = 0 then iprop(in0 m c ∗ idle0 c) else iprop(out0 m c ∗ idle0 c)
  q w := w.elim0
  owed t := if t.val = 0 then O₀ c else 0

/-- The blocks the attention region fetches at a point. -/
abbrev qBlk (c : Dev nD) (t : Fin cfg1.N) : S1x256x16x64.Idx → Elt F .f32 :=
  ((cfg1.win 0).blk t).view.read (Elt F) (Vg m c (Proc.devRef .tc main_arg0))
abbrev kBlk (c : Dev nD) (t : Fin cfg1.N) : S2x1x256x16x64.Idx → Elt F .f32 :=
  ((cfg1.win 1).blk t).view.read (Elt F) (Vg m c (Proc.devRef .tc main_v1_0))
abbrev vBlk (c : Dev nD) (t : Fin cfg1.N) : S2x1x256x16x64.Idx → Elt F .f32 :=
  ((cfg1.win 2).blk t).view.read (Elt F) (Vg m c (Proc.devRef .tc main_v1_1))

/-- Proof data of the attention region: at every point the result's block is the kernel's expression of the fetched blocks. -/
def dat1 (c : Dev nD) : Dat τ (Elt F) Unit ℕ UU ℕ cfg1 c where
  A w := Vg m c (Proc.devRef .tc (Pipeline.arrRef spec1 w))
  after w t := match w with
    | ⟨0, _⟩ => qBlk m c t
    | ⟨1, _⟩ => kBlk m c t
    | ⟨2, _⟩ => vBlk m c t
    | ⟨3, _⟩ => attnBlk (qBlk m c t) (kBlk m c t) (vBlk m c t)
  Φ _ := iprop(emp)
  q _ := fullShare
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 m
  | 1 => dat1 m

theorem owed0_start (c : Dev nD) : (dat0 (F := F) m c).owed 0 = O₀ c := by
  show (if (0 : Fin (cfg0.N + 1)).val = 0 then O₀ c else 0) = O₀ c
  exact if_pos rfl
theorem owed0_end (c : Dev nD) : (dat0 (F := F) m c).owed (Fin.last _) = 0 := by
  show (if (Fin.last cfg0.N).val = 0 then O₀ c else 0) = 0
  exact if_neg (by rw [Fin.val_last, show cfg0.N = 1 from N_0]; decide)
theorem Φ0_start (c : Dev nD) : (dat0 (F := F) m c).Φ 0 = iprop(in0 m c ∗ idle0 c) := by
  show (if (0 : Fin (cfg0.N + 1)).val = 0 then iprop(in0 m c ∗ idle0 c) else iprop(out0 m c ∗ idle0 c)) = _
  exact if_pos rfl
theorem Φ0_end (c : Dev nD) : (dat0 (F := F) m c).Φ (Fin.last _) = iprop(out0 m c ∗ idle0 c) := by
  show (if (Fin.last cfg0.N).val = 0 then iprop(in0 m c ∗ idle0 c) else iprop(out0 m c ∗ idle0 c)) = _
  exact if_neg (by rw [Fin.val_last, show cfg0.N = 1 from N_0]; decide)

/-- No windows, no conjuncts. -/
theorem bigSep_W0 {M : Type} [URA M] (Φ : Fin 0 → sProp M) : bigSep Finset.univ Φ = (BI.emp : sProp M) :=
  bigSep_univ_eq_bigSepL [] (by decide) (by decide) Φ

/-- The gathering region's body is the run of Gather.lean. -/
theorem body0 (c : Dev nD) : BodyObligation (dat0 (F := F) m c) (defs₀ (F := F)) 𝒱₀ () Set.univ := fun t => by
  obtain rfl := fin_N0 t
  rw [bigSep_W0, bigSep_W0]
  rw [show (t0_0 : Fin cfg0.N).castSucc = 0 from rfl, show (t0_0 : Fin cfg0.N).succ = Fin.last _ from rfl, Φ0_start, Φ0_end]
  unfold Dat.owesAt Pipeline.owesWithin
  rw [owed0_start, owed0_end]
  unfold in0 out0
  rw [held_arrs, held_arrs, Vg_k, Vg_v, Vg_of m c _ (by decide) (by decide), Vg_of m c _ (by decide) (by decide),
    Vg_of m c _ (by decide) (by decide), Vg_of m c _ (by decide) (by decide), six]
  iintro ⟨⟨⟨⟨Hq, Hk, Hv, Hgk, Hgv, Hr⟩, ⟨%κ, Hop⟩, Hcr, Hlev⟩, Hid⟩, ⟨%W, -, HO⟩, -⟩
  iapply (gather_run m κ c W _)
  isplitl [Hop Hcr Hlev Hk Hv Hgk Hgv HO]
  · unfold gatherPre
    isplitl [Hop]; · iexact Hop
    isplitl [Hcr]; · iexact Hcr
    isplitl [Hlev]; · iexact Hlev
    isplitl [Hk]; · unfold kSrc; iexact Hk
    isplitl [Hv]; · unfold vSrc; iexact Hv
    isplitl [Hgk]; · iexists _; unfold kAll; iexact Hgk
    isplitl [Hgv]; · iexists _; unfold vAll; iexact Hgv
    iexact HO
  unfold gatherPost kSrc vSrc kAll vAll
  iintro ⟨Hb, Hs, Hk, Hv, Hgk, Hgv, ⟨%W', HO⟩⟩
  isplitr [HO]
  · isplitr [Hid]
    · isplitr [Hs Hb]
      · isplitl [Hq]; · iexact Hq
        isplitl [Hk]; · iexact Hk
        isplitl [Hv]; · iexact Hv
        isplitl [Hgk]; · iexact Hgk
        isplitl [Hgv] <;> iassumption
      isplitl [Hs] <;> iassumption
    iexact Hid
  isplitl [HO]
  · iexists W'; isplitr
    · ipureintro; exact fun _ _ => Or.inl trivial
    iexact HO
  iempintro

theorem before1_0 (c : Dev nD) (t : Fin cfg1.N) (d : (cfg1.win 0).block.Idx → Elt F (cfg1.win 0).elt) : (dat1 m c).before 0 t d = qBlk m c t := by
  unfold Dat.before; rw [if_pos (fetch1_0 t)]; rfl
theorem before1_1 (c : Dev nD) (t : Fin cfg1.N) (d : (cfg1.win 1).block.Idx → Elt F (cfg1.win 1).elt) : (dat1 m c).before 1 t d = kBlk m c t := by
  unfold Dat.before; rw [if_pos (fetch1_1 t)]; rfl
theorem before1_2 (c : Dev nD) (t : Fin cfg1.N) (d : (cfg1.win 2).block.Idx → Elt F (cfg1.win 2).elt) : (dat1 m c).before 2 t d = vBlk m c t := by
  unfold Dat.before; rw [if_pos (fetch1_2 t)]; rfl

/-- The attention region's body at a point is the run of Attn.lean. -/
theorem body1 (c : Dev nD) : BodyObligation (dat1 (F := F) m c) (defs₀ (F := F)) 𝒱₀ () Set.univ := fun t => by
  rw [bigSep_W1, bigSep_W1]
  dsimp only
  iintro ⟨-, HO, ⟨%d0, H0⟩, ⟨%d1, H1⟩, ⟨%d2, H2⟩, ⟨%d3, H3⟩⟩
  rw [before1_0, before1_1, before1_2]
  iapply (attn_run c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) (qBlk m c t) (kBlk m c t) (vBlk m c t) _)
  isplitl [H0]; · iexact H0
  isplitl [H1]; · iexact H1
  isplitl [H2]; · iexact H2
  isplitl [H3]; · iexists _; iexact H3
  iintro ⟨H0, H1, H2, H3⟩
  isplitr; · iempintro
  isplitl [HO]; · iexact HO
  isplitl [H0]; · iexact H0
  isplitl [H1]; · iexact H1
  isplitl [H2]; · iexact H2
  iexact H3

/-! ## The gathering region -/

/-- What launch leaves with a device for it. -/
def Tk (c : Dev nD) : sProp 𝕄 := iprop((∃ κ, ghost m κ c) ∗ creds c)
def Xk (c : Dev nD) : sProp 𝕄 := iprop((∃ κ, opened m κ c) ∗ creds c ∗ levAts L lv)

theorem own_sems (c : Dev nD) : (Pipeline.ownSems0 osem c : sProp 𝕄) = bigSep Finset.univ fun k : Fin 6 => semVal (dc c k) 0 := rfl

theorem hopen0 (c : Dev nD) : iprop(Tk m c ∗ Pipeline.ownSems0 osem c ∗ levAts L lv) ⊢ (|={Set.univ}=> Xk m c : sProp 𝕄) := by
  rw [own_sems]
  unfold Tk Xk
  iintro ⟨⟨⟨%κ, Hg⟩, Hc⟩, Hs, Hl⟩
  imod (open_cells m κ c) $$ [Hg Hs] with Ho
  · isplitl [Hg] <;> iassumption
  imodintro
  isplitl [Ho]; · iexists κ; iexact Ho
  isplitl [Hc] <;> iassumption

theorem hin0 (c : Dev nD) : iprop(Pipeline.scopedRest (Pipeline.pin (pcfgs (F := F)) adm 0).spec c ∗ (∃ r, prngReg c r)
      ∗ StableHlo.held (c.tc : Thread nD τ) arrs (Vs m c) ∗ Xk m c) ⊢ (pdats m 0 c).Φ 0 := by
  rw [show (pdats m 0 c).Φ 0 = iprop(in0 m c ∗ idle0 c) from Φ0_start m c]
  unfold in0 idle0 Xk
  iintro ⟨Hs, Hp, Hh, HX⟩
  isplitl [Hh HX]; · isplitl [Hh] <;> iassumption
  isplitl [Hs] <;> iassumption

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) arrs (Vg m c) ∗ Pipeline.ownSems0 osem c ∗ semVal (barCell c) 0) := by
  rw [show (pdats m 0 c).Φ (Fin.last _) = iprop(out0 m c ∗ idle0 c) from Φ0_end m c, own_sems]
  unfold out0 idle0
  iintro ⟨⟨Hh, Hs, Hb⟩, Hr, Hp⟩
  isplitl [Hr]; · iexact Hr
  isplitl [Hp]; · iexact Hp
  isplitl [Hh]; · iexact Hh
  isplitl [Hs] <;> iassumption

theorem cut0 (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · rcases O₀_pos h with (rfl | rfl) | rfl <;> refine ⟨by rw [L_tc]; exact Finset.mem_singleton_self _, ?_⟩
    · exact (by decide : 0 < 2)
    · exact (by decide : 0 < 2)
    · exact (by decide : 0 < 1)
  · exact absurd h (Nat.lt_irrefl 0)

set_option backward.isDefEq.respectTransparency.types false in
/-- The gathering region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts cfg0.spec osem)
    arrs arrs (Finset.Subset.refl _) launch0.toP rfl (fun c => (body0 m c).loose)
    (fun _ => 0) O₀ (fun c => (owed0_start m c).trans (zero_add _).symm) (owed0_end m) (fun _ => rfl) (fun _ w => w.elim0)
    (Vs m) (Vg m) (fun _ b hb => absurd hb (by rw [Finset.sdiff_self]; exact Finset.notMem_empty b))
    (Tk m) (fun c => semVal (barCell c) 0) (Xk m) (fun c => semVal (barCell c) 0) (hopen0 m) (hin0 m) (hout0 m)
    (fun c => by iintro H; imodintro; iexact H)
    (fun _ => 0)
    ⟨fun _ w => w.elim0, fun _ w => w.elim0, fun c t g i h => cut0 m c t g i h⟩
    (fun _ => iprop(emp))
    (fun _ w => w.elim0) (fun _ w => w.elim0)

/-- The region has no arrays of windows. -/
theorem no_windows (c : Dev nD) (W : Valuation τ sig (Elt F)) :
    (StableHlo.held (c.tc : Thread nD τ) (Pipeline.arrRefs (τ := τ) (pcfgs (F := F) 0).spec) W : sProp 𝕄) = BI.emp := by
  unfold StableHlo.held Pipeline.arrRefs
  rw [show (Finset.univ : Finset (Fin (pcfgs (F := F) 0).W)) = ∅ from rfl, Finset.image_empty, Finset.map_empty, BI.bigSep_empty]

/-- Entering it, from the arrays as launched. -/
theorem reg0_pre (c : Dev nD) :
    iprop(StableHlo.held (c : Thread nD τ) arrs (Vs m c) ∗ Tk m c ∗ (∃ r, prngReg c r) ∗ ∃ W, owes (c : Thread nD τ) (O₀ c) W) ⊢ (reg0 m).pre c := by
  show _ ⊢ iprop(StableHlo.held (c.tc : Thread nD τ) (Pipeline.arrRefs (τ := τ) (pcfgs (F := F) 0).spec) (Vs m c) ∗ (∃ r, prngReg c r)
    ∗ (StableHlo.held (c.tc : Thread nD τ) arrs (Vs m c) ∗ emp) ∗ Tk m c ∗ ∃ Wd, owes (c : Thread nD τ) (0 + O₀ c) Wd)
  rw [no_windows, zero_add]
  iintro ⟨Hh, HT, Hp, HO⟩
  isplitr; · iempintro
  isplitl [Hp]; · iexact Hp
  isplitl [Hh]
  · isplitl [Hh]; · iexact Hh
    iempintro
  isplitl [HT] <;> iassumption

/-- Leaving it, with K and V gathered. -/
theorem reg0_post (c : Dev nD) : (reg0 m).post c
    ⊢ iprop(StableHlo.held (c : Thread nD τ) arrs (Vg m c) ∗ (∃ W, owes (c : Thread nD τ) (0 : CellTallies nD τ sig Unit) W) ∗ semVal (barCell c) 0) := by
  show iprop(StableHlo.held (c.tc : Thread nD τ) (Pipeline.arrRefs (τ := τ) (pcfgs (F := F) 0).spec) (Vg m c) ∗ (∃ r, prngReg c r)
    ∗ (StableHlo.held (c.tc : Thread nD τ) arrs (Vg m c) ∗ emp) ∗ semVal (barCell c) 0 ∗ ∃ Wd, owes (c : Thread nD τ) (0 : CellTallies nD τ sig Unit) Wd) ⊢ _
  rw [no_windows]
  iintro ⟨-, -, ⟨Hh, -⟩, Hb, HO⟩
  isplitl [Hh]; · iexact Hh
  isplitl [HO] <;> iassumption

/-! ## The attention region -/

/-- The staging semaphores are at level 0. -/
theorem stage_level : ∀ (w : Fin 4) (s : Fin (spec1 w).nbuf), (if ((spec1 w).sem s).val = 3 ∨ ((spec1 w).sem s).val = 5 then 2 else 0) ≤ 0 := by
  decide

set_option backward.isDefEq.respectTransparency.types false in
/-- The attention region, the barrier counter riding along. -/
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) arrs (fun _ => iprop(emp)) (fun _ => iprop(emp))
    launch1.toP rfl (fun c => (body1 m c).loose) (fun _ _ => rfl) (fun _ => rfl) (fun c => (dat1 m c).share_full fun _ => rfl)
    (fun c => by
      rw [show Pipeline.scopedRest (Pipeline.pin (pcfgs (F := F)) adm 1).spec c = (BI.emp : sProp 𝕄) from scopedRest1_eq c]
      iintro -; iempintro)
    (fun c => by
      rw [show Pipeline.scopedRest (Pipeline.pin (pcfgs (F := F)) adm 1).spec c = (BI.emp : sProp 𝕄) from scopedRest1_eq c]
      iintro -; isplitr <;> iempintro)
    (fun _ => 0)
    ⟨fun c w s => by rw [L_tc]; exact Finset.mem_singleton_self _,
     fun c w s => stage_level w s,
     fun c g i h => absurd h (Nat.lt_irrefl 0)⟩
    (fun c => semVal (barCell c) 0) (Vg m) (fun _ _ => rfl)

theorem win_arrs : Pipeline.arrRefs (τ := τ) (pcfgs (F := F) 1).spec ⊆ arrs := by
  show Pipeline.arrRefs (τ := τ) spec1 ⊆ arrs
  decide

/-- Device `c`'s arrays at the end. -/
def Ve (c : Dev nD) : Valuation τ sig (Elt F) := Pipeline.afterRegion (dat1 m c) (Vg m c)

theorem reg1_pre (c : Dev nD) :
    iprop(StableHlo.held (c : Thread nD τ) arrs (Vg m c) ∗ (∃ W, owes (c : Thread nD τ) (0 : CellTallies nD τ sig Unit) W) ∗ semVal (barCell c) 0)
      ⊢ (reg1 m).pre c := by
  refine BI.Entails.trans ?_ (Pipeline.RegionSeg.ofHeldIn_pre win_arrs c)
  show _ ⊢ iprop(StableHlo.held (c : Thread nD τ) arrs (Vg m c) ∗ (∃ W, owes (c : Thread nD τ) (0 : CellTallies nD τ sig Unit) W) ∗ emp ∗ semVal (barCell c) 0)
  iintro ⟨Hh, HO, Hb⟩
  isplitl [Hh]; · iexact Hh
  isplitl [HO]; · iexact HO
  isplitr; · iempintro
  iexact Hb

theorem reg1_post (c : Dev nD) : (reg1 m).post c
    ⊢ iprop((StableHlo.held (c : Thread nD τ) arrs (Ve m c) ∗ semVal (barCell c) 0) ∗ ∃ W, owes (c : Thread nD τ) (0 : CellTallies nD τ sig Unit) W) := by
  refine (Pipeline.RegionSeg.ofHeldIn_post win_arrs c).trans ?_
  show iprop(StableHlo.held (c : Thread nD τ) arrs (Ve m c) ∗ (∃ W, owes (c : Thread nD τ) (0 : CellTallies nD τ sig Unit) W) ∗ emp ∗ semVal (barCell c) 0) ⊢ _
  iintro ⟨Hh, HO, -, Hb⟩
  isplitr [HO]
  · isplitl [Hh] <;> iassumption
  iexact HO

/-- The attention region leaves everything but the result. -/
theorem Ve_of (c : Dev nD) (r : Ref sig .tc) (h : r ≠ main_v2) : Ve m c (Proc.devRef .tc r) = Vg m c (Proc.devRef .tc r) :=
  Pipeline.afterRegion_keeps (dat1 m c) (Vg m c) launch1.win.arr_inj (fun _ => rfl) r fun w hw => by
    subst hw; revert w; decide
theorem Ve_v2 (c : Dev nD) : Ve m c (Proc.devRef .tc main_v2) = (dat1 m c).arrAt 3 cfg1.N :=
  Pipeline.afterRegion_arr (dat1 m c) (Vg m c) launch1.win.arr_inj 3

end Cert.Attn

end
-- ==== Proof.Run.lean ====
/-
  The launch, and the run of the whole program: the ghost state of the gathering protocol is made and dealt to the devices,
  the two regions run one after the other, and every device's arrays and barrier counter are read off at the end.
-/
module

public import proofs.«01_k».proof.Proof.Regions
public import Idealize.ShloMosaic.Lib.Quiescent
public import Idealize.ShloMosaic.Harness.Basic

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem osem_ne_bar : ∀ k : Fin 6, osem k ≠ .reg barS := by decide

theorem cells_apart : Disjoint (barCells : Finset (GSem nD τ sig)) dmaCells := by
  rw [Finset.disjoint_left]
  intro g hb hd
  obtain ⟨c, -, rfl⟩ := Finset.mem_map.mp hb
  obtain ⟨ck, -, h⟩ := Finset.mem_map.mp hd
  exact osem_ne_bar ck.2 (congrArg Prod.snd h)

/-- Every cell has one duty: round 0's. -/
def firstDuty : GSem nD τ sig ↪ GSem nD τ sig × ℕ × Unit := ⟨fun g => (g, 0, ()), fun _ _ h => congrArg Prod.fst h⟩
def duties : Finset (GSem nD τ sig × ℕ × Unit) := (barCells ∪ dmaCells).map firstDuty

/-- A DMA cell and the device that pays its duty, exchanged. -/
theorem tgt_tgt (c : Dev nD) (k : Fin 6) : tgt (tgt c k) k = c := by
  unfold tgt
  by_cases h : k = 3 ∨ k = 5
  · rw [if_pos h, if_pos h, pr_pr]
  · rw [if_neg h, if_neg h]
def payer : (Dev nD × Fin 6) ≃ (Dev nD × Fin 6) :=
  ⟨fun ck => (tgt ck.1 ck.2, ck.2), fun ck => (tgt ck.1 ck.2, ck.2), fun ck => Prod.ext (tgt_tgt ck.1 ck.2) rfl,
    fun ck => Prod.ext (tgt_tgt ck.1 ck.2) rfl⟩

/-- All the tokens, dealt to the devices that pay. -/
theorem duties_dealt : (bigSep duties fun x => (dutyTok ER x.1 x.2.1 x.2.2 : sProp 𝕄)) ⊢ bigSep Finset.univ fun c : Dev nD => toks c := by
  unfold duties toks
  rw [bigSep_map, bigSep_union cells_apart, bigSep_map, bigSep_map]
  refine BI.Entails.trans ?_ (both_join (fun c : Dev nD => (dutyTok ER (barCell (pr c)) 0 () : sProp 𝕄))
    (fun c : Dev nD => bigSep Finset.univ fun k : Fin 6 => (dutyTok ER (dc (tgt c k) k) 0 () : sProp 𝕄)))
  show iprop((bigSep Finset.univ fun c : Dev nD => dutyTok ER (barCell c) 0 ())
    ∗ bigSep Finset.univ fun ck : Dev nD × Fin 6 => dutyTok ER (dc ck.1 ck.2) 0 ()) ⊢ _
  rw [bigSep_univ_equiv swap (fun c : Dev nD => (dutyTok ER (barCell c) 0 () : sProp 𝕄)),
    bigSep_univ_equiv payer (fun ck : Dev nD × Fin 6 => (dutyTok ER (dc ck.1 ck.2) 0 () : sProp 𝕄)), bigSep_univ_prod]
  exact BI.Entails.refl _

/-! ## The launch element -/

def u₀ : UU :=
  (initOf (Pipeline.cells (Pipeline.pin (pcfgs (F := F)) adm) cellOf_inj) (Pipeline.launchToks (Pipeline.pin (pcfgs (F := F)) adm) cellOf_inj),
    launchOf barCells dmaCells duties)

/-- The protocol's launch element, in the care of device 0 until it is dealt. -/
def G (c : Dev nD) : sProp 𝕄 := if c = 0 then BI.own (ER (launchOf barCells dmaCells duties)) else iprop(emp)

theorem G_all : bigSep Finset.univ (G (F := F)) = BI.own (ER (launchOf barCells dmaCells duties)) := by
  rw [bigSep_univ_at _ (0 : Dev nD), bigSep_congr (s := Finset.univ.erase (0 : Dev nD)) (Φ := G) (Ψ := fun _ => (BI.emp : sProp 𝕄))
    fun c hc => if_neg (Finset.ne_of_mem_erase hc), BI.bigSep_emp_const]
  exact BI.equiv_iff.mp sep_emp

/-! ## The launch credit -/

/-- What is owed to a cell of `c`, by its partner alone. -/
theorem owed_at (sm : SemLoc sig) (n : ℕ) (c d : Dev nD)
    (h : (if sm = osem 5 then N else 0) + (if sm = osem 3 then N else 0) + (if sm = .reg barS then 1 else 0) = n) :
    O₀ d ((c : Thread nD τ), sm) () = if d = pr c then n else 0 := by
  have at_ (s : SemLoc sig) (k : ℕ) : tallyAt ((pr d : Thread nD τ), s) () k ((c : Thread nD τ), sm) ()
      = if d = pr c then (if sm = s then k else 0) else 0 := by
    rw [tallyAt_apply]
    by_cases hd : d = pr c
    · subst hd
      rw [pr_pr, if_pos rfl]
      by_cases hs : sm = s
      · rw [if_pos ⟨by rw [hs], rfl⟩, if_pos hs]
      · rw [if_neg (fun e => hs (congrArg Prod.snd e.1)), if_neg hs]
    · rw [if_neg hd, if_neg]
      intro e
      have hc : c = pr d := congrArg (fun g : GSem nD τ sig => g.1.1) e.1
      exact hd (by rw [hc, pr_pr])
  unfold O₀ Osend
  rw [Pi.add_apply, Finsupp.add_apply, Pi.add_apply, Finsupp.add_apply, at_, at_, at_, ← h]
  by_cases hd : d = pr c
  · simp only [if_pos hd]
  · simp only [if_neg hd]

theorem credit_at (sm : SemLoc sig) (n : ℕ) (c : Dev nD)
    (h : (if sm = osem 5 then N else 0) + (if sm = osem 3 then N else 0) + (if sm = .reg barS then 1 else 0) = n) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => owed_at sm n c d h,
    Finset.sum_ite_eq' Finset.univ (pr c) fun _ => n, if_pos (Finset.mem_univ _)]

theorem credit_bar (c : Dev nD) : tallyOn (barCell c) (launchCredit (Pipeline.owing O₀) 0 (barCell c))
    = (tallyAt (barCell c) () 1 : CellTallies nD τ sig Unit) :=
  credit_at _ _ c (by rw [if_neg (by decide), if_neg (by decide), if_pos rfl])
theorem credit_k (c : Dev nD) : tallyOn (dc c 3) (launchCredit (Pipeline.owing O₀) 0 (dc c 3))
    = (tallyAt (dc c 3) () N : CellTallies nD τ sig Unit) :=
  credit_at _ _ c (by rw [if_neg (by decide), if_pos rfl, if_neg (by decide), Nat.zero_add, Nat.add_zero])
theorem credit_v (c : Dev nD) : tallyOn (dc c 5) (launchCredit (Pipeline.owing O₀) 0 (dc c 5))
    = (tallyAt (dc c 5) () N : CellTallies nD τ sig Unit) :=
  credit_at _ _ c (by rw [if_pos rfl, if_neg (by decide), if_neg (by decide), Nat.add_zero])

theorem creds_launch (c : Dev nD) : (Pipeline.launchCred O₀ c : sProp 𝕄) ⊢ creds c := by
  unfold Pipeline.launchCred creds
  rw [← credit_bar, ← credit_k, ← credit_v]
  refine (bigSep_subset (t := {SemLoc.reg barS, osem 3, osem 5}) (Finset.subset_univ _)).trans ?_
  rw [bigSep_insert (by decide), bigSep_insert (by decide), bigSep_singleton]
  exact BI.Entails.refl _

/-! ## From the launch to the first region -/

/-- What a device enters the gathering region with, and what it ends with. -/
abbrev T₀ (c : Dev nD) : sProp 𝕄 :=
  iprop(StableHlo.held (c : Thread nD τ) arrs (Vs m c) ∗ Tk m c ∗ (∃ r, prngReg c r) ∗ ∃ W, owes (c : Thread nD τ) (O₀ c) W)
abbrev Tₙ (c : Dev nD) : sProp 𝕄 := iprop(StableHlo.held (c : Thread nD τ) arrs (Ve m c) ∗ semVal (barCell c) 0)

/-- A device's launch holdings outside the protocol's ghost state, and its part of that state. -/
def plain (c : Dev nD) : sProp 𝕄 :=
  iprop(StableHlo.held (c : Thread nD τ) arrs (Vs m c) ∗ creds c ∗ owes (c : Thread nD τ) (O₀ c) ∅ ∗ ∃ r, prngReg c r)
def part (c : Dev nD) : sProp 𝕄 :=
  iprop(atPos ER (barCell c) 0 ∅ 0 ∗ (bigSep Finset.univ fun k : Fin 6 => openTok ER (dc c k)) ∗ toks c)

theorem T₀_of (κ : GSem nD τ sig → ℕ) (c : Dev nD) : iprop(records m κ ∗ (part c ∗ plain m c)) ⊢ T₀ m c := by
  unfold part plain T₀ Tk ghost
  iintro ⟨#HR, ⟨Ha, Ho, Ht⟩, Hh, Hc, HO, Hp⟩
  isplitl [Hh]; · iexact Hh
  isplitr [Hp HO]
  · isplitr [Hc]
    · iexists κ
      isplitr; · iexact HR
      isplitl [Ha]; · iexact Ha
      isplitl [Ho] <;> iassumption
    · iexact Hc
  isplitl [Hp]; · iexact Hp
  iexists ∅; iexact HO

theorem one_unscoped (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- The launch holdings of a device, sorted. -/
abbrev atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem sorted (c : Dev nD) : atLaunch m ρ c ⊢ (iprop(plain m c ∗ (semVal (barCell c) 0 ∗ G c)) : sProp 𝕄) := by
  unfold atLaunch
  rw [show unscopedBufs c (fun b => m ((c : Thread nD τ).loc b)) = StableHlo.held (c : Thread nD τ) arrs (Vs m c) from
    Pipeline.unscopedBufs_held (Ix := Unit) (Name := ℕ) (U := UU) (Lvl := ℕ) c (Vs m c), one_unscoped]
  unfold plain
  iintro ⟨Hh, Hs, HO, Hcr, Hp, HG⟩
  isplitl [Hh HO Hcr Hp]
  · isplitl [Hh]; · iexact Hh
    isplitl [Hcr]; · iapply (creds_launch (F := F) c) $$ Hcr
    isplitl [HO]; · iexact HO
    iexists (ρ c); iexact Hp
  isplitl [Hs] <;> iassumption

theorem sorted_all : bigSep Finset.univ (atLaunch m ρ)
    ⊢ (iprop(bigSep Finset.univ (plain m) ∗ (bigSep barCells (fun g => semVal g 0) ∗ BI.own (ER (launchOf barCells dmaCells duties)))) : sProp 𝕄) := by
  refine (bigSep_mono fun c _ => sorted m ρ c).trans ((both_split _ _).trans (BIClass.sep_mono .rfl ((both_split _ _).trans (BIClass.sep_mono ?_ ?_))))
  · exact Entails.of_eq (bigSep_map (s := Finset.univ) barEmb (Φ := fun g : GSem nD τ sig => (semVal g 0 : sProp 𝕄))).symm
  · exact Entails.of_eq G_all

theorem parts_all : (iprop(bigSep barCells (fun g => atPos ER g 0 ∅ 0) ∗ (bigSep dmaCells (fun g => openTok ER g)
      ∗ bigSep duties fun x => dutyTok ER x.1 x.2.1 x.2.2)) : sProp 𝕄) ⊢ bigSep Finset.univ fun c : Dev nD => part c := by
  unfold part
  refine BI.Entails.trans (BIClass.sep_mono ?_ ((BIClass.sep_mono ?_ duties_dealt).trans (both_join _ _))) (both_join _ _)
  · exact Entails.of_eq (bigSep_map (s := Finset.univ) barEmb (Φ := fun g : GSem nD τ sig => (atPos ER g 0 ∅ 0 : sProp 𝕄)))
  · refine Entails.of_eq ?_
    rw [bigSep_map, bigSep_univ_prod]
    rfl

/-- The protocol is funded and dealt. -/
theorem dealt : iprop((bigSep Finset.univ (atLaunch m ρ)) ∗ levAts L lv) ⊢ (|={Set.univ}=> bigSep Finset.univ (T₀ m) : sProp 𝕄) := by
  iintro ⟨H, -⟩
  ihave H' := (sorted_all m ρ) $$ H
  icases H' with ⟨HB, Hv, Hu⟩
  imod (Rounds.fund_launch ER (Rd m) cells_apart (fun g _ h => h) duties) $$ [Hv Hu] with ⟨%κ, -, #Hinv, #Hr, Hat, Hopen, Htok⟩
  · isplitl [Hv] <;> iassumption
  imodintro
  iapply (bigSep_with_persistent (R := records m κ) (Φ := fun c => iprop(part c ∗ plain m c)) fun c _ => T₀_of m κ c)
  isplitr
  · unfold records
    isplitr; · iexact Hinv
    iexact Hr
  iapply (both_join (fun c : Dev nD => (part c : sProp 𝕄)) (plain m))
  isplitr [HB]
  · iapply (parts_all (F := F))
    isplitl [Hat]; · iexact Hat
    isplitl [Hopen] <;> iassumption
  · iexact HB

/-! ## The run -/

/-- The program's two regions. -/
def segs : List (Pipeline.Seg (pcfgs (F := F)) adm (pdats m) () defs₀ 𝒱₀ L lv) := [.region (reg0 m), .region (reg1 m)]

/-- The only counter that outlives the regions is the barrier's. -/
theorem only_bar : ∀ sm : SemLoc sig, sm.isScoped .tc = false → sm = .reg barS := by decide

set_option backward.isDefEq.respectTransparency.types false in
/-- From any memory with zero counters, over any float values: every weakly fair run of the program on the eight devices ends; then
    every device's result array holds what the attention region's points flush, its arguments are as they were, and every semaphore
    counter of the machine reads zero. -/
theorem run_main : θ_run defs (onTc (τ := τ) (main (F := F))) ⟨m, fun _ => 0, ρ⟩
    (fun r => (∀ c : Dev nD, r.2.mem ((c : Thread nD τ).loc main_v2) = (dat1 m c).arrAt 3 cfg1.N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (reg0 m) (reg1 m) c]; exact BI.Entails.refl _)
    (by simp only [segs, Pipeline.Seg.pipes_region, Pipeline.Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP] <;> iassumption)
    (T₀ := T₀ m) (Tₙ := Tₙ m)
    (hch := ⟨fun c => reg0_pre m c, fun c => (reg0_post m c).trans (reg1_pre m c), fun c => reg1_post m c⟩)
    (hinit := dealt m ρ)
    (QY := fun c s => (s.mem ((c : Thread nD τ).loc main_v2) = Ve m c (Proc.devRef .tc main_v2)
        ∧ s.mem ((c : Thread nD τ).loc main_arg0) = Ve m c (Proc.devRef .tc main_arg0)
        ∧ s.mem ((c : Thread nD τ).loc main_arg1) = Ve m c (Proc.devRef .tc main_arg1)
        ∧ s.mem ((c : Thread nD τ).loc main_arg2) = Ve m c (Proc.devRef .tc main_arg2)) ∧ s.sem (barCell c) = 0)
    (hfin := fun c s' => by
      dsimp only [Tₙ]; rw [held_arrs]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h3, Buf.eq_of_forall_mem_univ h0, Buf.eq_of_forall_mem_univ h1, Buf.eq_of_forall_mem_univ h2⟩,
          by simpa using hb⟩
      iexact HSI)
    (hQ := fun s h hs => ⟨fun c => by
        obtain ⟨⟨hv, h0, h1, h2⟩, -⟩ := h c
        refine ⟨hv.trans (Ve_v2 m c), h0.trans ?_, h1.trans ?_, h2.trans ?_⟩ <;>
          exact (Ve_of m c _ (by decide)).trans (Vg_of m c _ (by decide) (by decide)),
      sem_eq_zero hs fun c sm hsm => by
        obtain rfl := only_bar sm hsm
        exact (h c).2⟩)

end Cert.Attn

end
-- ==== Proof.Block.lean ====
/-
  What one block of the attention kernel computes, over the extended reals.

  A block's inputs are one batch's 256 query rows and the 512 key and value rows in two halves. Read off a whole Q, K and V, the
  block's element is the attention formula `attn`: the softmax of the 512 scaled scores, weighting the 512 value rows.
-/
module

public import proofs.«01_k».proof.Proof.Attn
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.ReduceUnfold
public import Idealize.ShloMosaic.Lib.Pointwise.Blocks
public import Idealize.ShloMosaic.Lib.Pointwise.Sums
public import Idealize.ShloMosaic.Lib.Pointwise.Select
public import Idealize.ShloMosaic.Lib.Pointwise.ShapeOps
public import Idealize.ShloMosaic.Lib.Pointwise.Elementwise

@[expose] public section

set_option maxRecDepth 16384

noncomputable section

namespace Cert.Attn

open Cert.KernelIdeal Cert.KernelIdeal.Gen
open Idealize.ShloMosaic Idealize.ShloMosaic.TcCoe

/-- A whole array of the problem: four batches, 512 rows, 16 heads, 64 features. -/
abbrev Whole : Type := (⟨4, ![4, 512, 16, 64]⟩ : Shape).Idx → EReal

/-- The scale of the scores, 1/8, as the programs write it. -/
abbrev scale : EReal := Ideal.ofBits FTy.f32 0x3E000000#32
/-- The value a maximum starts from, minus infinity, as the programs write it. -/
abbrev lowest : EReal := Ideal.ofBits FTy.f32 0xFF800000#32

/-- The softmax of a row of 512 scores. -/
def soft (s : Fin 512 → EReal) (x : Fin 512) : EReal :=
  Ideal.div (Ideal.exp (s x - Finset.fold max lowest s Finset.univ)) (∑ y, Ideal.exp (s y - Finset.fold max lowest s Finset.univ))

/-- The scaled scores of query row `r` against all keys, in batch `b` and head `h`. -/
def scores (Q K : Whole) (b : Fin 4) (r : Fin 512) (h : Fin 16) (x : Fin 512) : EReal :=
  (∑ e : Fin 64, Q (ix4 b r h e) * K (ix4 b x h e)) * scale

/-- The attention formula at one element. -/
def attn (Q K V : Whole) (b : Fin 4) (r : Fin 512) (h : Fin 16) (d : Fin 64) : EReal :=
  ∑ x : Fin 512, soft (scores Q K b r h) x * V (ix4 b x h d)

/-- Row `x` of the half `j` of the 512 rows. -/
def row (j : Fin 2) (x : Fin 256) : Fin 512 := ⟨j.val * 256 + x.val, by omega⟩

/-- A sum over the 512 rows is the sum over the first half and the sum over the second. -/
theorem sum_rows (f : Fin 512 → EReal) : ∑ x, f x = ∑ x, f (row 0 x) + ∑ x, f (row 1 x) := by
  refine (Fin.sum_univ_two_halves 256 256 rfl f).trans (congrArg₂ (· + ·) ?_ ?_) <;>
    exact Finset.sum_congr rfl fun x _ => congrArg f (Fin.ext (by simp [row]))

section

variable {Q K V : Whole} {q : S1x256x16x64.Idx → Elt Ideal .f32} {k v : S2x1x256x16x64.Idx → Elt Ideal .f32} {b : Fin 4} {y : Fin 2}

/-- The kernel's score against key `x`, taken from the half `x` lies in. -/
theorem score_at (hq : ∀ r h e, q (ix4 0 r h e) = Q (ix4 b (row y r) h e)) (hk : ∀ j x h e, k (ix5 j 0 x h e) = K (ix4 b (row j x) h e))
    (h : Fin 16) (r : Fin 256) (x : Fin 512) :
    (if hx : x.val < 256 then ∑ e : Fin 64, q (ix4 0 r h e) * k (ix5 0 0 ⟨x.val, hx⟩ h e)
      else ∑ e : Fin 64, q (ix4 0 r h e) * k (ix5 1 0 ⟨x.val - 256, by omega⟩ h e)) * scale = scores Q K b (row y r) h x := by
  unfold scores
  refine congrArg (· * scale) ?_
  split
  · next hx =>
    refine Finset.sum_congr rfl fun e _ => ?_
    rw [hq, hk, show row 0 ⟨x.val, hx⟩ = x from Fin.ext (by simp [row])]
  · next hx =>
    refine Finset.sum_congr rfl fun e _ => ?_
    rw [hq, hk, show row 1 ⟨x.val - 256, by omega⟩ = x from Fin.ext (by simp [row]; omega)]

/-- The kernel's weights are the softmax of the scaled scores. -/
theorem weights (hq : ∀ r h e, q (ix4 0 r h e) = Q (ix4 b (row y r) h e)) (hk : ∀ j x h e, k (ix5 j 0 x h e) = K (ix4 b (row j x) h e))
    (h : Fin 16) (r : Fin 256) (x : Fin 512) :
    k1_pay2 (F := Ideal) q (half0 k) (half1 k) (ix3 h r x) = soft (scores Q K b (row y r) h) x := by
  have lo (x : Fin 256) : (∑ e : Fin 64, q (ix4 0 r h e) * k (ix5 0 0 x h e)) * scale = scores Q K b (row y r) h (row 0 x) := by
    unfold scores
    exact congrArg (· * scale) (Finset.sum_congr rfl fun e _ => by rw [hq, hk])
  have hi (x : Fin 256) : (∑ e : Fin 64, q (ix4 0 r h e) * k (ix5 1 0 x h e)) * scale = scores Q K b (row y r) h (row 1 x) := by
    unfold scores
    exact congrArg (· * scale) (Finset.sum_congr rfl fun e _ => by rw [hq, hk])
  have all := score_at hq hk h r
  unfold soft
  rw [sum_rows]
  pointwise [k1_pay2, half0, half1]
  simp only [all, lo, hi]

/-- One block of the result is the attention formula. -/
theorem attnBlk_apply (hq : ∀ r h e, q (ix4 0 r h e) = Q (ix4 b (row y r) h e)) (hk : ∀ j x h e, k (ix5 j 0 x h e) = K (ix4 b (row j x) h e))
    (hv : ∀ j x h e, v (ix5 j 0 x h e) = V (ix4 b (row j x) h e)) (r : Fin 256) (h : Fin 16) (d : Fin 64) :
    attnBlk (F := Ideal) q k v (ix4 0 r h d) = attn Q K V b (row y r) h d := by
  have w := weights hq hk h r
  unfold attn
  rw [sum_rows]
  unfold attnBlk
  generalize half0 k = k0 at w ⊢
  generalize half1 k = k1 at w ⊢
  pointwise [k1_pay1, k1_pay3, k1_pay4, half0, half1]
  refine congrArg₂ (· + ·) (Finset.sum_congr rfl fun x _ => ?_) (Finset.sum_congr rfl fun x _ => ?_)
  · rw [w, hv]; exact congrArg (fun z => soft (scores Q K b (row y r) h) z * _) (Fin.ext (by simp [row]))
  · rw [w, hv]; exact congrArg (fun z => soft (scores Q K b (row y r) h) z * _) (Fin.ext (by simp [row]))

end

end Cert.Attn

end
-- ==== Proof.Ref.lean ====
/-
  What the reference computes, at one element: the same attention formula, over its whole Q, K and V.
-/
module

public import proofs.«01_k».proof.Proof.Block
public import proofs.«01_k».proof.Proof.Gen.ReferenceIdeal.Read

@[expose] public section

set_option maxRecDepth 16384

noncomputable section

namespace Cert.Attn

open Cert.ReferenceIdeal.Read
open Idealize.ShloMosaic Idealize.ShloMosaic.TcCoe

/-- The reference's weights are the softmax of the scaled scores. -/
theorem ref_weights (Q K : Whole) (b : Fin 4) (h : Fin 16) (r x : Fin 512) :
    val_main_v11 (F := Ideal) Q K (ix4 b h r x) = soft (scores Q K b r h) x := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The reference's result is the attention formula. -/
theorem ref_apply (Q K V : Whole) (b : Fin 4) (r : Fin 512) (h : Fin 16) (d : Fin 64) :
    val_main_v13 (F := Ideal) Q K V (ix4 b r h d) = attn Q K V b r h d := by
  have w := ref_weights Q K b h r
  unfold attn
  pointwise [val_main_v13, val_main_v12]
  exact Finset.sum_congr rfl fun x _ => by rw [w]; exact mul_comm _ _

end Cert.Attn

end
-- ==== Proof.Values.lean ====
/-
  What the arrays of a device hold once the attention kernel is done, over the extended reals.

  At grid point `t` the kernel reads batch `t` of the device's queries and of the gathered K and V, and writes batch `t` of the
  result. So when every device holds its part of one whole Q, K and V, the result of device `c` ends holding its part of the
  attention formula.
-/
module

public import proofs.«01_k».proof.Proof.Block
public import proofs.«01_k».proof.Proof.Regions
public import Idealize.ShloMosaic.Lib.Pipeline.Value
public import Idealize.ShloMosaic.Lib.Layout

@[expose] public section

set_option maxRecDepth 16384

noncomputable section

namespace Cert.Attn

open Cert.KernelIdeal Cert.KernelIdeal.Gen
open Idealize.ShloMosaic Idealize.ShloMosaic.TcCoe

/-! ## The blocks of a grid point -/

/-- The batch a grid point works on. -/
def batch (t : Fin cfg1.N) : Fin 4 := ⟨t.val, t.isLt.trans_eq N_1⟩

/-- Where each window's block of point `t` starts, in blocks. -/
theorem index_facts : ∀ t : Fin grid1.N, (win1_0.index t = ![t.val, 0, 0, 0] ∧ win1_3.index t = ![t.val, 0, 0, 0])
    ∧ (win1_1.index t = ![0, t.val, 0, 0, 0] ∧ win1_2.index t = ![0, t.val, 0, 0, 0]) := by decide +kernel

section

variable {F : FTy → Type} (t : Fin cfg1.N) (r : Fin 256) (h : Fin 16) (e : Fin 64)

/-- An element of the queries' block of a point is the element of its batch. -/
theorem read_q (f : S4x256x16x64.Idx → Elt F .f32) :
    ((cfg1.win 0).blk t).view.read (Elt F) f (ix4 0 r h e) = f (ix4 (batch t) r h e) := by
  refine congrArg f (funext fun a => Fin.ext ?_)
  have hi := (index_facts t).1.1
  match a with
  | ⟨0, _⟩ => show win1_0.index t 0 * 1 + 1 * 0 = t.val; rw [hi]; simp
  | ⟨1, _⟩ => show win1_0.index t 1 * 256 + 1 * r.val = r.val; rw [hi]; simp
  | ⟨2, _⟩ => show win1_0.index t 2 * 16 + 1 * h.val = h.val; rw [hi]; simp
  | ⟨3, _⟩ => show win1_0.index t 3 * 64 + 1 * e.val = e.val; rw [hi]; simp

/-- An element of the result's block of a point is the element of its batch. -/
theorem read_o (f : S4x256x16x64.Idx → Elt F .f32) :
    ((cfg1.win 3).blk t).view.read (Elt F) f (ix4 0 r h e) = f (ix4 (batch t) r h e) := by
  refine congrArg f (funext fun a => Fin.ext ?_)
  have hi := (index_facts t).1.2
  match a with
  | ⟨0, _⟩ => show win1_3.index t 0 * 1 + 1 * 0 = t.val; rw [hi]; simp
  | ⟨1, _⟩ => show win1_3.index t 1 * 256 + 1 * r.val = r.val; rw [hi]; simp
  | ⟨2, _⟩ => show win1_3.index t 2 * 16 + 1 * h.val = h.val; rw [hi]; simp
  | ⟨3, _⟩ => show win1_3.index t 3 * 64 + 1 * e.val = e.val; rw [hi]; simp

/-- An element of the gathered keys' block of a point is the element of its batch, in the same slot. -/
theorem read_k (f : S2x4x256x16x64.Idx → Elt F .f32) (j : Fin 2) :
    ((cfg1.win 1).blk t).view.read (Elt F) f (ix5 j 0 r h e) = f (ix5 j (batch t) r h e) := by
  refine congrArg f (funext fun a => Fin.ext ?_)
  have hi := (index_facts t).2.1
  match a with
  | ⟨0, _⟩ => show win1_1.index t 0 * 2 + 1 * j.val = j.val; rw [hi]; simp
  | ⟨1, _⟩ => show win1_1.index t 1 * 1 + 1 * 0 = t.val; rw [hi]; simp
  | ⟨2, _⟩ => show win1_1.index t 2 * 256 + 1 * r.val = r.val; rw [hi]; simp
  | ⟨3, _⟩ => show win1_1.index t 3 * 16 + 1 * h.val = h.val; rw [hi]; simp
  | ⟨4, _⟩ => show win1_1.index t 4 * 64 + 1 * e.val = e.val; rw [hi]; simp

/-- An element of the gathered values' block of a point is the element of its batch, in the same slot. -/
theorem read_v (f : S2x4x256x16x64.Idx → Elt F .f32) (j : Fin 2) :
    ((cfg1.win 2).blk t).view.read (Elt F) f (ix5 j 0 r h e) = f (ix5 j (batch t) r h e) := by
  refine congrArg f (funext fun a => Fin.ext ?_)
  have hi := (index_facts t).2.2
  match a with
  | ⟨0, _⟩ => show win1_2.index t 0 * 2 + 1 * j.val = j.val; rw [hi]; simp
  | ⟨1, _⟩ => show win1_2.index t 1 * 1 + 1 * 0 = t.val; rw [hi]; simp
  | ⟨2, _⟩ => show win1_2.index t 2 * 256 + 1 * r.val = r.val; rw [hi]; simp
  | ⟨3, _⟩ => show win1_2.index t 3 * 16 + 1 * h.val = h.val; rw [hi]; simp
  | ⟨4, _⟩ => show win1_2.index t 4 * 64 + 1 * e.val = e.val; rw [hi]; simp

end

/-- The result's blocks tile it: the element of batch `b` is in the block of point `b`. -/
theorem cover (i : S4x256x16x64.Idx) : ∃ t : Fin cfg1.N, (cfg1.win 3).flush t = true ∧ i ∈ ((cfg1.win 3).blk t).view.set := by
  refine ⟨⟨(i 0).val, (show (i 0).val < 4 from (i 0).isLt).trans_eq N_1.symm⟩, flush1_3 _, ?_⟩
  generalize ht : (⟨(i 0).val, (show (i 0).val < 4 from (i 0).isLt).trans_eq N_1.symm⟩ : Fin cfg1.N) = t
  have hv : t.val = (i 0).val := by rw [← ht]
  show i ∈ ((View.whole main_v2).slice (win1_3.rect t)).set
  rw [View.set_slice_whole, Rect.mem_set_unit]
  have hi := (index_facts t).1.2
  intro a
  match a with
  | ⟨0, _⟩ =>
    show win1_3.index t 0 * 1 ≤ (i 0).val ∧ (i 0).val < win1_3.index t 0 * 1 + 1
    rw [hi]; simp [hv]
  | ⟨1, _⟩ =>
    show win1_3.index t 1 * 256 ≤ (i 1).val ∧ (i 1).val < win1_3.index t 1 * 256 + 256
    rw [hi]; simpa using (show (i 1).val < 256 from (i 1).isLt)
  | ⟨2, _⟩ =>
    show win1_3.index t 2 * 16 ≤ (i 2).val ∧ (i 2).val < win1_3.index t 2 * 16 + 16
    rw [hi]; simpa using (show (i 2).val < 16 from (i 2).isLt)
  | ⟨3, _⟩ =>
    show win1_3.index t 3 * 64 ≤ (i 3).val ∧ (i 3).val < win1_3.index t 3 * 64 + 64
    rw [hi]; simpa using (show (i 3).val < 64 from (i 3).isLt)

/-! ## The result of a device -/

/-- Device `c`'s part of a whole array: the half of the rows its middle mesh coordinate names. -/
abbrev devPart (c : Dev nD) (X : Whole) : S4x256x16x64.Idx → EReal :=
  Layout.blockN ⟨4, ![4, 256, 16, 64]⟩ ⟨4, ![4, 512, 16, 64]⟩ (Layout.meshBlock [2, 2, 2] ![[], [1], [], []] c) X

/-- A device's part at an index: the same batch, head and feature, and its half's row. -/
theorem devPart_apply (c : Dev nD) (X : Whole) (b : Fin 4) (r : Fin 256) (h : Fin 16) (e : Fin 64) :
    devPart c X (ix4 b r h e) = X (ix4 b (row (yc c) r) h e) := by
  have hc : Layout.meshLin [2, 2, 2] c.val [1] = c.val / 2 % 2 := by revert c; decide
  refine congrArg X (funext fun a => Fin.ext ?_)
  match a with
  | ⟨0, _⟩ => show Layout.meshLin [2, 2, 2] c.val [] * 4 + b.val = b.val; simp [Layout.meshLin]
  | ⟨1, _⟩ => show Layout.meshLin [2, 2, 2] c.val [1] * 256 + r.val = c.val / 2 % 2 * 256 + r.val; rw [hc]
  | ⟨2, _⟩ => show Layout.meshLin [2, 2, 2] c.val [] * 16 + h.val = h.val; simp [Layout.meshLin]
  | ⟨3, _⟩ => show Layout.meshLin [2, 2, 2] c.val [] * 64 + e.val = e.val; simp [Layout.meshLin]

/-- The attention formula as a whole array. -/
def attnWhole (Q K V : Whole) : Whole := fun i => attn Q K V (i 0) (i 1) (i 2) (i 3)

section

variable (m : (ℓ : Loc nD τ sig) → Buf (Elt Ideal) ℓ) {Q K V : Whole}

/-- The gathered array of parts of one whole array: slot `j` holds the half `j` of the rows. -/
theorem gath_part (x : Dev nD → S4x256x16x64.Idx → EReal) (X : Whole) (hx : ∀ c, x c = devPart c X) (c : Dev nD)
    (j : Fin 2) (b : Fin 4) (r : Fin 256) (h : Fin 16) (e : Fin 64) :
    gath (F := Ideal) x c (ix5 j b r h e) = X (ix4 b (row j r) h e) := by
  show x (owner c j) (ix4 b r h e) = _
  rw [hx, devPart_apply, yc_owner]

/-- When every device's arguments are its parts of Q, K and V, its result ends as its part of the attention formula. -/
theorem result_part (hq : ∀ c : Dev nD, m ((c : Thread nD τ).loc main_arg0) = devPart c Q) (hk : ∀ c, mK m c = devPart c K)
    (hv : ∀ c, mV m c = devPart c V) (c : Dev nD) : (dat1 m c).arrAt 3 cfg1.N = devPart c (attnWhole Q K V) := by
  refine (dat1 m c).arrAt_eq_of_cover 3 (devPart c (attnWhole Q K V)) (fun t _ => ?_) cover
  show attnBlk (qBlk m c t) (kBlk m c t) (vBlk m c t) = _
  refine funext fun (i : S1x256x16x64.Idx) => ?_
  obtain ⟨r, h, e, rfl⟩ : ∃ (r : Fin 256) (h : Fin 16) (e : Fin 64), i = ix4 0 r h e :=
    ⟨i 1, i 2, i 3, (eq_ix4 i).trans (congrArg (fun z : Fin 1 => ix4 z (i 1) (i 2) (i 3)) (Subsingleton.elim _ _))⟩
  refine Eq.trans ?_ (read_o t r h e _).symm
  rw [devPart_apply]
  refine attnBlk_apply (b := batch t) (y := yc c) (fun r h e => ?_) (fun j x h e => ?_) (fun j x h e => ?_) r h e
  · unfold qBlk
    rw [Vg_of m c _ (by decide) (by decide)]
    refine (read_q t r h e _).trans ?_
    rw [show Vs m c (Proc.devRef .tc main_arg0) = devPart c Q from hq c, devPart_apply]
  · unfold kBlk
    rw [Vg_k]
    exact (read_k t x h e _ j).trans (gath_part _ K hk c j _ x h e)
  · unfold vBlk
    rw [Vg_v]
    exact (read_v t x h e _ j).trans (gath_part _ V hv c j _ x h e)

end

end Cert.Attn

end
-- ==== Proof.lean ====
/-
  The five claims, assembled: the runs of the two prints of the kernel, the run of the reference, and the equation of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Ref
public import proofs.«01_k».proof.Proof.Values
public import Idealize.ShloMosaic.Lib.Quiescent

@[expose] public section

set_option maxRecDepth 16384

noncomputable section

namespace Cert.Proof

open Idealize.ShloMosaic Idealize.ShloMosaic.TcCoe
open Idealize.SL Idealize.SL.Sem
open Cert.Attn

/-- The two prints of the kernel have the same kernel bodies, -/
theorem bodies_same : Cert.Kernel.defs₀ (F := Bits) = Cert.KernelIdeal.defs₀ (F := Bits) :=
  congrArg Defs.onTc (funext fun l => match l with
    | ⟨0, _⟩ => rfl
    | ⟨1, _⟩ => rfl)

/-- hence the same body table with the pipelines' own labels, -/
theorem defs_same : Cert.Kernel.defs (F := Bits) = Cert.KernelIdeal.defs (F := Bits) :=
  congrArg (Pipeline.defs Cert.KernelIdeal.pcfgs) bodies_same

/-- and so the same runs. -/
theorem runs_same (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩
      = θ_run Cert.KernelIdeal.defs (onTc (τ := Cert.KernelIdeal.τ) (Cert.KernelIdeal.main (F := Bits))) ⟨m, fun _ => 0, ρ⟩ :=
  congrArg (fun D => θ_run D (onTc (τ := Cert.KernelIdeal.τ) (Cert.KernelIdeal.main (F := Bits))) ⟨m, fun _ => 0, ρ⟩) defs_same

/-- The kernel on machine floats terminates without a fault, keeps its arguments and leaves every counter at zero. -/
theorem frame_kernel : Cert.quiescent_Kernel := fun m ρ _ => by
  rw [runs_same]
  exact (θ_run Cert.KernelIdeal.defs _ _).mono (fun _ h => And.intro (fun c => (h.1 c).2) h.2) (run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference terminates without a fault, keeps its arguments and leaves every counter at zero. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- The reference's result, as a whole array, is the attention formula. -/
theorem ref_whole (Q K V : Whole) : Cert.ReferenceIdeal.Read.val_main_v13 (F := Ideal) Q K V = attnWhole Q K V := by
  refine funext fun i => ?_
  rw [eq_ix4 i]
  exact ref_apply Q K V _ _ _ _

/-- From parts of the reference's arguments, every device's result ends as its part of the reference's result. -/
theorem algebraic : Cert.algebraic_KernelIdeal_ReferenceIdeal := fun m ρ m' ρ' _ hin => by
  refine ⟨attnWhole (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · exact (θ_run Cert.KernelIdeal.defs _ _).mono (fun _ h c => ⟨(h.1 c).1.trans
      (result_part m (fun c => (hin c).1) (fun c => (hin c).2.1) (fun c => (hin c).2.2) c), (h.1 c).2⟩) (run_main (F := Ideal) m ρ)
  · exact (θ_run Cert.ReferenceIdeal.defs _ _).mono (fun _ h => ⟨(h 0).1.trans
      ((Cert.ReferenceIdeal.Read.val_main_v13_eq _ _ _).trans (ref_whole _ _ _)), (h 0).2⟩) (Cert.ReferenceIdeal.Value.run (F := Ideal) m' ρ')

/-- All five claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
